-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S3x512x2048 : Shape := ⟨3, ![3, 512, 2048]⟩
abbrev S8 : Shape := ⟨1, ![8]⟩
abbrev S3x2 : Shape := ⟨2, ![3, 2]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S1x512x1024 : Shape := ⟨3, ![1, 512, 1024]⟩
abbrev S512x1024 : Shape := ⟨2, ![512, 1024]⟩
abbrev S1x512x2048 : Shape := ⟨3, ![1, 512, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S8x512x512, .fp8e4m3⟩
  | .local _ .vmem, ⟨3, _⟩ => ⟨S8x512x512, .fp8e4m3⟩
  | .local _ .vmem, ⟨4, _⟩ => ⟨S3x512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v45 : BitVec 32 := Scalar.addi v2 c1_i32_19
  let c8_i32_20 : BitVec 32 := 8#32
  let v46 : BitVec 32 := Scalar.remsi v45 c8_i32_20
  let c1_i32_22 : BitVec 32 := 1#32
  let v47 : BitVec 32 := Scalar.muli v46 c1_i32_22
  let v48 : BitVec 32 := Scalar.addi c0_i32_23 v47
  v48.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v49 : BitVec 32 := Scalar.addi v2 c2_i32_24
  let c8_i32_25 : BitVec 32 := 8#32
  let v50 : BitVec 32 := Scalar.remsi v49 c8_i32_25
  let c1_i32_27 : BitVec 32 := 1#32
  let v51 : BitVec 32 := Scalar.muli v50 c1_i32_27
  let v52 : BitVec 32 := Scalar.addi c0_i32_28 v51
  v52.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v53 : BitVec 32 := Scalar.addi v2 c3_i32_29
  let c8_i32_30 : BitVec 32 := 8#32
  let v54 : BitVec 32 := Scalar.remsi v53 c8_i32_30
  let c1_i32_32 : BitVec 32 := 1#32
  let v55 : BitVec 32 := Scalar.muli v54 c1_i32_32
  let v56 : BitVec 32 := Scalar.addi c0_i32_33 v55
  v56.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v57 : BitVec 32 := Scalar.addi v2 c4_i32_34
  let c8_i32_35 : BitVec 32 := 8#32
  let v58 : BitVec 32 := Scalar.remsi v57 c8_i32_35
  let c1_i32_37 : BitVec 32 := 1#32
  let v59 : BitVec 32 := Scalar.muli v58 c1_i32_37
  let v60 : BitVec 32 := Scalar.addi c0_i32_38 v59
  v60.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v61 : BitVec 32 := Scalar.addi v2 c5_i32
  let c8_i32_39 : BitVec 32 := 8#32
  let v62 : BitVec 32 := Scalar.remsi v61 c8_i32_39
  let c1_i32_41 : BitVec 32 := 1#32
  let v63 : BitVec 32 := Scalar.muli v62 c1_i32_41
  let v64 : BitVec 32 := Scalar.addi c0_i32_42 v63
  v64.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v65 : BitVec 32 := Scalar.addi v2 c6_i32
  let c8_i32_43 : BitVec 32 := 8#32
  let v66 : BitVec 32 := Scalar.remsi v65 c8_i32_43
  let c1_i32_45 : BitVec 32 := 1#32
  let v67 : BitVec 32 := Scalar.muli v66 c1_i32_45
  let v68 : BitVec 32 := Scalar.addi c0_i32_46 v67
  v68.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v69 : BitVec 32 := Scalar.addi v2 c7_i32
  let c8_i32_47 : BitVec 32 := 8#32
  let v70 : BitVec 32 := Scalar.remsi v69 c8_i32_47
  let c1_i32_49 : BitVec 32 := 1#32
  let v71 : BitVec 32 := Scalar.muli v70 c1_i32_49
  let v72 : BitVec 32 := Scalar.addi c0_i32_50 v71
  v72.toNat
def k0_off1 (d0 : Dev nD) (c0_i32_11 : BitVec 32) : Fin 2 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  let c512_i32 : BitVec 32 := 512#32
  let v73 : BitVec 32 := Scalar.muli v34 c512_i32
  let v74 : Index := Scalar.indexCast v73
  let c0 : Index := 0#32
  ![v74.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let c0_i32_60 : BitVec 32 := 0#32
  ![v2.toNat, 0, 0]
def k0_dev8 (d0 : Dev nD) : Nat :=
  let c0_i32_58 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let c0_i32_11 : BitVec 32 := 0#32
  let v32 : BitVec 32 := Scalar.addi v21 c0_i32_11
  let c4_i32_12 : BitVec 32 := 4#32
  let v33 : BitVec 32 := Scalar.remsi v32 c4_i32_12
  let v34 : BitVec 32 := Scalar.addi v22 v33
  let c1_i32_57 : BitVec 32 := 1#32
  let v81 : BitVec 32 := Scalar.muli v34 c1_i32_57
  let v82 : BitVec 32 := Scalar.addi c0_i32_58 v81
  v82.toNat
def k0_dev9 (d0 : Dev nD) : Nat :=
  let c0_i32_70 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let c1_i32_13 : BitVec 32 := 1#32
  let v35 : BitVec 32 := Scalar.addi v21 c1_i32_13
  let c4_i32_14 : BitVec 32 := 4#32
  let v36 : BitVec 32 := Scalar.remsi v35 c4_i32_14
  let v37 : BitVec 32 := Scalar.addi v22 v36
  let c1_i32_69 : BitVec 32 := 1#32
  let v99 : BitVec 32 := Scalar.muli v37 c1_i32_69
  let v100 : BitVec 32 := Scalar.addi c0_i32_70 v99
  v100.toNat
def k0_dev10 (d0 : Dev nD) : Nat :=
  let c0_i32_82 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let c3_i32_15 : BitVec 32 := 3#32
  let v38 : BitVec 32 := Scalar.addi v21 c3_i32_15
  let c4_i32_16 : BitVec 32 := 4#32
  let v39 : BitVec 32 := Scalar.remsi v38 c4_i32_16
  let v40 : BitVec 32 := Scalar.addi v22 v39
  let c1_i32_81 : BitVec 32 := 1#32
  let v117 : BitVec 32 := Scalar.muli v40 c1_i32_81
  let v118 : BitVec 32 := Scalar.addi c0_i32_82 v117
  v118.toNat
def k0_dev11 (d0 : Dev nD) : Nat :=
  let c0_i32_94 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let c2_i32_17 : BitVec 32 := 2#32
  let v41 : BitVec 32 := Scalar.addi v21 c2_i32_17
  let c4_i32_18 : BitVec 32 := 4#32
  let v42 : BitVec 32 := Scalar.remsi v41 c4_i32_18
  let v43 : BitVec 32 := Scalar.addi v22 v42
  let c1_i32_93 : BitVec 32 := 1#32
  let v135 : BitVec 32 := Scalar.muli v43 c1_i32_93
  let v136 : BitVec 32 := Scalar.addi c0_i32_94 v135
  v136.toNat
def k0_off4 (d0 : Dev nD) (c1_i32_7 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  let c512_i32_99 : BitVec 32 := 512#32
  let v145 : BitVec 32 := Scalar.muli v25 c512_i32_99
  let v146 : Index := Scalar.indexCast v145
  let c0_100 : Index := 0#32
  ![v146.toNat, 0]
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_7 : BitVec 32 := 1#32
  let v23 : BitVec 32 := Scalar.addi v21 c1_i32_7
  let c4_i32_8 : BitVec 32 := 4#32
  let v24 : BitVec 32 := Scalar.remsi v23 c4_i32_8
  let v25 : BitVec 32 := Scalar.addi v20 v24
  let c1_i32_105 : BitVec 32 := 1#32
  let v153 : BitVec 32 := Scalar.muli v25 c1_i32_105
  let v154 : BitVec 32 := Scalar.addi c0_i32_106 v153
  v154.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v26 : BitVec 32 := Scalar.addi v21 c3_i32
  let c4_i32_9 : BitVec 32 := 4#32
  let v27 : BitVec 32 := Scalar.remsi v26 c4_i32_9
  let v28 : BitVec 32 := Scalar.addi v20 v27
  let c1_i32_117 : BitVec 32 := 1#32
  let v171 : BitVec 32 := Scalar.muli v28 c1_i32_117
  let v172 : BitVec 32 := Scalar.addi c0_i32_118 v171
  v172.toNat
def k0_dev14 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c2_i32 : BitVec 32 := 2#32
  let v29 : BitVec 32 := Scalar.addi v21 c2_i32
  let c4_i32_10 : BitVec 32 := 4#32
  let v30 : BitVec 32 := Scalar.remsi v29 c4_i32_10
  let v31 : BitVec 32 := Scalar.addi v20 v30
  let c1_i32_129 : BitVec 32 := 1#32
  let v189 : BitVec 32 := Scalar.muli v31 c1_i32_129
  let v190 : BitVec 32 := Scalar.addi c0_i32_130 v189
  v190.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_135 : BitVec 32 := 512#32
  let v199 : BitVec 32 := Scalar.muli v2 c512_i32_135
  let c0_i32_142 : BitVec 32 := 0#32
  ![v199.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_136 : BitVec 32 := 512#32
  let v200 : BitVec 32 := Scalar.muli v2 c512_i32_136
  let c1024_i32_147 : BitVec 32 := 1024#32
  ![v200.toNat, 1024]
def k0_off7 (d0 : Dev nD) (c1_i32_7 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  let c512_i32_148 : BitVec 32 := 512#32
  let v211 : BitVec 32 := Scalar.muli v25 c512_i32_148
  let c0_i32_155 : BitVec 32 := 0#32
  ![v211.toNat, 0]
def k0_off8 (d0 : Dev nD) (c1_i32_7 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  let c512_i32_149 : BitVec 32 := 512#32
  let v212 : BitVec 32 := Scalar.muli v25 c512_i32_149
  let c1024_i32_161 : BitVec 32 := 1024#32
  ![v212.toNat, 1024]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_188 : BitVec 32 := 512#32
  let v245 : BitVec 32 := Scalar.muli v2 c512_i32_188
  let v246 : Index := Scalar.indexCast v245
  let c0_189 : Index := 0#32
  ![v246.toNat, 0]
def k0_off10 (d0 : Dev nD) (c1_i32_7 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  ![v25.toNat]
def k0_off11 (d0 : Dev nD) (c1_i32_7 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  let c0_i32_225 : BitVec 32 := 0#32
  let c0_i32_226 : BitVec 32 := 0#32
  ![v25.toNat, 0, 0]
def k0_off12 (d0 : Dev nD) (c1_i32_7 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let v23 : BitVec 32 := Scalar.addi v21 c1_i32_7
  let c4_i32_8 : BitVec 32 := 4#32
  let v24 : BitVec 32 := Scalar.remsi v23 c4_i32_8
  let v25 : BitVec 32 := Scalar.addi v20 v24
  let v285 : Index := Scalar.indexCast v25
  let c0_229 : Index := 0#32
  let c0_230 : Index := 0#32
  ![v285.toNat, 0, 0]
def k0_off13 (d0 : Dev nD) (c0_i32_11 : BitVec 32) : Fin 2 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  let c512_i32_239 : BitVec 32 := 512#32
  let v297 : BitVec 32 := Scalar.muli v34 c512_i32_239
  let c0_i32_246 : BitVec 32 := 0#32
  ![v297.toNat, 0]
def k0_off14 (d0 : Dev nD) (c0_i32_11 : BitVec 32) : Fin 2 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  let c512_i32_240 : BitVec 32 := 512#32
  let v298 : BitVec 32 := Scalar.muli v34 c512_i32_240
  let c1024_i32_252 : BitVec 32 := 1024#32
  ![v298.toNat, 1024]
def k0_off15 (d0 : Dev nD) (c0_i32_11 : BitVec 32) : Fin 1 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  ![v34.toNat]
def k0_off16 (d0 : Dev nD) (c0_i32_11 : BitVec 32) : Fin 3 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  let c0_i32_357 : BitVec 32 := 0#32
  let c0_i32_358 : BitVec 32 := 0#32
  ![v34.toNat, 0, 0]
def k0_off17 (d0 : Dev nD) (c0_i32_11 : BitVec 32) : Fin 3 → Nat :=
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v22 : BitVec 32 := Scalar.subi c4_i32_6 v20
  let v21 : BitVec 32 := Scalar.subi v2 v20
  let v32 : BitVec 32 := Scalar.addi v21 c0_i32_11
  let c4_i32_12 : BitVec 32 := 4#32
  let v33 : BitVec 32 := Scalar.remsi v32 c4_i32_12
  let v34 : BitVec 32 := Scalar.addi v22 v33
  let v411 : Index := Scalar.indexCast v34
  let c0_361 : Index := 0#32
  let c0_362 : Index := 0#32
  ![v411.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.SameText.lean ====
/-
  The kernel and its idealized program have the same text, under two names: their bodies, and the tables that the
  run looks them up in, are equal.
-/
module

public import proofs.«01_k».proof.Proof.Gen.Kernel
public import proofs.«01_k».proof.Proof.Gen.KernelIdeal

@[expose] public section

set_option maxHeartbeats 1000000

noncomputable section

namespace Cert.Ring

open Idealize.ShloMosaic Idealize.SL.Sem

variable {F : FTy → Type} [FloatOps F]

theorem body_same : @Cert.Kernel.cc0_body F _ Cert.Kernel.Gen.facts = @Cert.KernelIdeal.cc0_body F _ Cert.KernelIdeal.Gen.facts := rfl

theorem bodies_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rfl

theorem defs_same : Cert.Kernel.defs (F := F) = Cert.KernelIdeal.defs (F := F) := congrArg (Pipeline.defs _) bodies_same

theorem main_same : Cert.Kernel.main (F := F) = Cert.KernelIdeal.main (F := F) := rfl

/-- A run of the idealized program is a run of the kernel. -/
theorem run_same (s : MemSt Cert.KernelIdeal.nD Cert.KernelIdeal.τ Cert.KernelIdeal.sig (Elt F)) {Q}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e : Cert.KernelIdeal.defs (F := F) = Cert.Kernel.defs (F := F) := defs_same.symm
  have e' : Cert.KernelIdeal.main (F := F) = Cert.Kernel.main (F := F) := main_same.symm
  rw [e, e'] at h
  exact h

end Cert.Ring

end
-- ==== Proof.Views.lean ====
/-
  The buffers of the kernel cut into the pieces it works on, and what each copy, load and store does to a piece.

  * the two ring buffers (rows to send, rows received) are eight slots of one 512×512 block each;
  * the buffer of weight blocks is three slots, each in two column halves;
  * the weight array is eight row blocks, each in two column halves.

  A slot's contents are written as a function that does not look at the slot coordinate, so that a block keeps its
  contents when it moves from one slot to another.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ViewIndex

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI

variable {F : FTy → Type} [FloatOps F]

/-! ## The buffers -/

abbrev xM : Memref sig .tc .vmem S4096x512 .f32 := Memref.whole cc0_stg0_0
abbrev sxM : Memref sig .tc .smem S1 .f32 := Memref.whole cc0_stg1_0
abbrev swM : Memref sig .tc .smem S1 .f32 := Memref.whole cc0_stg2_0
abbrev outM : Memref sig .tc .vmem S512x2048 .f32 := Memref.whole cc0_stg3_0
abbrev wM : Memref sig .tc .hbm S4096x2048 .f32 := Memref.whole main_arg1
abbrev sndM : Memref sig .tc .vmem S8x512x512 .fp8e4m3 := Memref.whole cc0_scratch0
abbrev rcvM : Memref sig .tc .vmem S8x512x512 .fp8e4m3 := Memref.whole cc0_scratch1
abbrev wbM : Memref sig .tc .vmem S3x512x2048 .f32 := Memref.whole cc0_scratch2

/-- One slot of a ring buffer, at the offsets `o`. -/
abbrev slotM (b : Memref sig .tc .vmem S8x512x512 .fp8e4m3) (o : Fin 3 → Nat) (h : ∀ a, o a + S1x512x512.size a ≤ S8x512x512.size a) :
    Memref sig .tc .vmem S512x512 .fp8e4m3 :=
  (b.slice (Rect.unit (s := S8x512x512) o S1x512x512.size h) (fun _ => rfl)).squeeze S512x512 squeezes_S1x512x512_S512x512

/-- One column half of a weight slot, at the offsets `o`. -/
abbrev halfM (o : Fin 3 → Nat) (h : ∀ a, o a + S1x512x1024.size a ≤ S3x512x2048.size a) : Memref sig .tc .vmem S512x1024 .f32 :=
  (wbM.slice (Rect.unit (s := S3x512x2048) o S1x512x1024.size h) (fun _ => rfl)).squeeze S512x1024 squeezes_S1x512x1024_S512x1024

/-- One column half of a row block of the weights, at the offsets `o`. -/
abbrev wPart (o : Fin 2 → Nat) (h : ∀ a, o a + S512x1024.size a ≤ S4096x2048.size a) : Memref sig .tc .hbm S512x1024 .f32 :=
  wM.slice (Rect.unit (s := S4096x2048) o S512x1024.size h) (fun _ => rfl)

/-! ## The pieces, as sets of indices -/

def slotSet (p : Fin 8) : Finset S8x512x512.Idx := Finset.univ.filter fun i => (i 0).val = p.val
def halfSet (k : Fin 3 × Fin 2) : Finset S3x512x2048.Idx := Finset.univ.filter fun i => (i 0).val = k.1.val ∧ (i 2).val / 1024 = k.2.val
def partSet (k : Fin 8 × Fin 2) : Finset S4096x2048.Idx := Finset.univ.filter fun i => (i 0).val / 512 = k.1.val ∧ (i 1).val / 1024 = k.2.val
/-- A whole weight slot: its two halves. -/
def wslotSet (s : Fin 3) : Finset S3x512x2048.Idx := Finset.univ.filter fun i => (i 0).val = s.val

theorem slotSet_disj (p q : Fin 8) (h : p ≠ q) : Disjoint (slotSet p) (slotSet q) :=
  Finset.disjoint_filter.mpr fun i _ h1 h2 => h (Fin.ext (h1.symm.trans h2))
theorem halfSet_disj (p q : Fin 3 × Fin 2) (h : p ≠ q) : Disjoint (halfSet p) (halfSet q) :=
  Finset.disjoint_filter.mpr fun i _ h1 h2 => h (Prod.ext (Fin.ext (h1.1.symm.trans h2.1)) (Fin.ext (h1.2.symm.trans h2.2)))
theorem partSet_disj (p q : Fin 8 × Fin 2) (h : p ≠ q) : Disjoint (partSet p) (partSet q) :=
  Finset.disjoint_filter.mpr fun i _ h1 h2 => h (Prod.ext (Fin.ext (h1.1.symm.trans h2.1)) (Fin.ext (h1.2.symm.trans h2.2)))

theorem slotSet_cover : Finset.univ.biUnion slotSet = Finset.univ :=
  Finset.eq_univ_iff_forall.mpr fun i => Finset.mem_biUnion.mpr ⟨i 0, Finset.mem_univ _, Finset.mem_filter.mpr ⟨Finset.mem_univ _, rfl⟩⟩
theorem halfSet_cover : Finset.univ.biUnion halfSet = Finset.univ :=
  Finset.eq_univ_iff_forall.mpr fun i => Finset.mem_biUnion.mpr
    ⟨(i 0, ⟨(i 2).val / 1024, by have : (i 2).val < 2048 := (i 2).isLt; omega⟩), Finset.mem_univ _, Finset.mem_filter.mpr ⟨Finset.mem_univ _, rfl, rfl⟩⟩
theorem partSet_cover : Finset.univ.biUnion partSet = Finset.univ :=
  Finset.eq_univ_iff_forall.mpr fun i => Finset.mem_biUnion.mpr
    ⟨(⟨(i 0).val / 512, by have : (i 0).val < 4096 := (i 0).isLt; omega⟩, ⟨(i 1).val / 1024, by have : (i 1).val < 2048 := (i 1).isLt; omega⟩),
      Finset.mem_univ _, Finset.mem_filter.mpr ⟨Finset.mem_univ _, rfl, rfl⟩⟩
theorem wslotSet_halves (s : Fin 3) : wslotSet s = halfSet (s, 0) ∪ halfSet (s, 1) := by
  ext i
  have h2 : (i 2).val < 2048 := (i 2).isLt
  simp only [wslotSet, halfSet, Finset.mem_union, Finset.mem_filter, Finset.mem_univ, true_and]
  constructor
  · intro h
    by_cases h' : (i 2).val < 1024
    · exact .inl ⟨h, Nat.div_eq_of_lt h'⟩
    · exact .inr ⟨h, by show (i 2).val / 1024 = 1; omega⟩
  · rintro (h | h) <;> exact h.1

/-! ## The pieces of the memory slices -/

section Sets

variable (b : Ref sig .tc) (r : Rect b.ty.shape)

theorem mem_slice {i : b.ty.shape.Idx} : i ∈ ((View.whole b).slice r).set ↔ i ∈ r.set := by
  rw [View.set_slice_whole]

end Sets

theorem snd_set (p : Fin 8) {o : Fin 3 → Nat} (ho : o = ![p.val, 0, 0]) (h) : (slotM sndM o h).view.set = slotSet p := by
  subst ho
  ext i
  have h1 : (i 1).val < 512 := (i 1).isLt
  have h2 : (i 2).val < 512 := (i 2).isLt
  rw [View.set_reshape, mem_slice, Rect.mem_set_unit]
  simp only [slotSet, Finset.mem_filter, Finset.mem_univ, true_and]
  constructor
  · intro h; have h0 := h 0; simp at h0; omega
  · intro h a; fin_cases a
    · simp; omega
    · exact ⟨Nat.zero_le _, by simpa using h1⟩
    · show 0 ≤ (i 2).val ∧ (i 2).val < 0 + 512
      omega

theorem rcv_set (p : Fin 8) {o : Fin 3 → Nat} (ho : o = ![p.val, 0, 0]) (h) : (slotM rcvM o h).view.set = slotSet p := by
  subst ho
  ext i
  have h1 : (i 1).val < 512 := (i 1).isLt
  have h2 : (i 2).val < 512 := (i 2).isLt
  rw [View.set_reshape, mem_slice, Rect.mem_set_unit]
  simp only [slotSet, Finset.mem_filter, Finset.mem_univ, true_and]
  constructor
  · intro h; have h0 := h 0; simp at h0; omega
  · intro h a; fin_cases a
    · simp; omega
    · exact ⟨Nat.zero_le _, by simpa using h1⟩
    · show 0 ≤ (i 2).val ∧ (i 2).val < 0 + 512
      omega

theorem half_set (k : Fin 3 × Fin 2) {o : Fin 3 → Nat} (ho : o = ![k.1.val, 0, 1024 * k.2.val]) (h) : (halfM o h).view.set = halfSet k := by
  subst ho
  ext i
  have h1 : (i 1).val < 512 := (i 1).isLt
  rw [View.set_reshape, mem_slice, Rect.mem_set_unit]
  simp only [halfSet, Finset.mem_filter, Finset.mem_univ, true_and]
  constructor
  · intro h; have h0 := h 0; have h2 := h 2; simp at h0 h2; omega
  · intro h a; fin_cases a
    · simp; omega
    · exact ⟨Nat.zero_le _, by simpa using h1⟩
    · show 1024 * k.2.val ≤ (i 2).val ∧ (i 2).val < 1024 * k.2.val + 1024
      omega

theorem part_set (k : Fin 8 × Fin 2) {o : Fin 2 → Nat} (ho : o = ![512 * k.1.val, 1024 * k.2.val]) (h) : (wPart o h).view.set = partSet k := by
  subst ho
  ext i
  rw [mem_slice, Rect.mem_set_unit]
  simp only [partSet, Finset.mem_filter, Finset.mem_univ, true_and]
  constructor
  · intro h; have h0 := h 0; have h1 := h 1; simp at h0 h1; omega
  · intro h a; fin_cases a
    · simp; omega
    · simp; omega

/-! ## Contents -/

/-- The 512 rows of `x` from row `512·p`. -/
def xrows (x : S4096x512.Idx → Elt F .f32) (p : Fin 8) : FVec F S512x512 .f32 := fun j =>
  x (ix2 ⟨512 * p.val + (j 0).val, by have : (j 0).val < 512 := (j 0).isLt; have := p.isLt; omega⟩ (j 1))

/-- The 512 rows of the weights from row `512·p`. -/
def wrows (w : S4096x2048.Idx → Elt F .f32) (p : Fin 8) : FVec F S512x2048 .f32 := fun j =>
  w (ix2 ⟨512 * p.val + (j 0).val, by have : (j 0).val < 512 := (j 0).isLt; have := p.isLt; omega⟩ (j 1))

/-- A block held in a slot: the slot coordinate is not looked at. -/
def inSlot (v : FVec F S512x512 .fp8e4m3) : S8x512x512.Idx → Elt F .fp8e4m3 := fun i => v (ix2 (i 1) (i 2))
/-- A row block of weights held in a slot. -/
def inWSlot (v : FVec F S512x2048 .f32) : S3x512x2048.Idx → Elt F .f32 := fun i => v (ix2 (i 1) (i 2))

/-- A block as a load of its slot gives it: behind one unit axis. -/
def lead1 (v : FVec F S512x512 .fp8e4m3) : FVec F S1x512x512 .fp8e4m3 := fun j => v (ix2 (j 1) (j 2))
def wlead1 (v : FVec F S512x2048 .f32) : FVec F S1x512x2048 .f32 := fun j => v (ix2 (j 1) (j 2))

/-! ## Loads -/

theorem idx2_ext {n0 n1 : Nat} {x y : (⟨2, ![n0, n1]⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem load_x (p : Fin 8) {o : Fin 2 → Nat} (ho : o = ![512 * p.val, 0]) (h) (x : S4096x512.Idx → Elt F .f32) :
    xM.view.readAt (Elt F) (Rect.unit (s := S4096x512) o S512x512.size h).toLoadRect x = xrows x p := by
  subst ho
  funext j
  show x ((Rect.unit (s := S4096x512) ![512 * p.val, 0] S512x512.size h).emb j) = _
  refine congrArg x (idx2_ext ?_ ?_)
  · rw [Rect.emb_apply]; simp
  · rw [Rect.emb_apply]; simp

theorem load_rcv (p : Fin 8) {o : Fin 3 → Nat} (ho : o = ![p.val, 0, 0]) (h) (v : FVec F S512x512 .fp8e4m3) :
    rcvM.view.readAt (Elt F) (Rect.unit (s := S8x512x512) o S1x512x512.size h).toLoadRect (inSlot v) = lead1 v := by
  subst ho
  funext j
  show v _ = v _
  refine congrArg v (idx2_ext ?_ ?_)
  · show (((Rect.unit (s := S8x512x512) ![p.val, 0, 0] S1x512x512.size h).emb j) 1).val = _
    rw [Rect.emb_apply]; simp
  · show (((Rect.unit (s := S8x512x512) ![p.val, 0, 0] S1x512x512.size h).emb j) 2).val = _
    rw [Rect.emb_apply]; simp

theorem load_w (s : Fin 3) {o : Fin 3 → Nat} (ho : o = ![s.val, 0, 0]) (h) (v : FVec F S512x2048 .f32) :
    wbM.view.readAt (Elt F) (Rect.unit (s := S3x512x2048) o S1x512x2048.size h).toLoadRect (inWSlot v) = wlead1 v := by
  subst ho
  funext j
  show v _ = v _
  refine congrArg v (idx2_ext ?_ ?_)
  · show (((Rect.unit (s := S3x512x2048) ![s.val, 0, 0] S1x512x2048.size h).emb j) 1).val = _
    rw [Rect.emb_apply]; simp
  · show (((Rect.unit (s := S3x512x2048) ![s.val, 0, 0] S1x512x2048.size h).emb j) 2).val = _
    rw [Rect.emb_apply]; simp

theorem load_rcv_set (p : Fin 8) {o : Fin 3 → Nat} (ho : o = ![p.val, 0, 0]) (h) :
    rcvM.view.setOn (Rect.unit (s := S8x512x512) o S1x512x512.size h).toLoadRect.set ⊆ slotSet p := by
  rw [← rcv_set p ho h, View.set_reshape]
  exact (View.set_slice _ _).symm.subset
theorem load_snd_set (p : Fin 8) {o : Fin 3 → Nat} (ho : o = ![p.val, 0, 0]) (h) :
    sndM.view.setOn (Rect.unit (s := S8x512x512) o S1x512x512.size h).toLoadRect.set ⊆ slotSet p := by
  rw [← snd_set p ho h, View.set_reshape]
  exact (View.set_slice _ _).symm.subset
theorem store_snd_set (p : Fin 8) {o : Fin 3 → Nat} (ho : o = ![p.val, 0, 0]) (h) :
    (sndM.access (Rect.unit (s := S8x512x512) o S1x512x512.size h)).setOn Finset.univ ⊆ slotSet p := by
  rw [← snd_set p ho h, View.set_reshape]
  exact Finset.Subset.refl _

theorem load_w_set (s : Fin 3) {o : Fin 3 → Nat} (ho : o = ![s.val, 0, 0]) (h) :
    wbM.view.setOn (Rect.unit (s := S3x512x2048) o S1x512x2048.size h).toLoadRect.set ⊆ wslotSet s := by
  subst ho
  refine (View.set_slice (v := wbM.view) (Rect.unit (s := S3x512x2048) _ S1x512x2048.size h)).symm.subset.trans fun i hi => ?_
  have := (Rect.mem_set_unit.mp ((mem_slice _ _).mp hi)) 0
  simp at this
  exact Finset.mem_filter.mpr ⟨Finset.mem_univ _, by omega⟩

/-! ## The store into a send slot -/

theorem lead_reshape (x : S512x512.Idx) : Shape.reshapeEquiv squeezes_S1x512x512_S512x512.numel_eq x = Fin.cons ⟨0, Nat.one_pos⟩ x :=
  Shape.reshapeEquiv_cons_one _ x
theorem lead_reshape_half (x : S512x1024.Idx) : Shape.reshapeEquiv squeezes_S1x512x1024_S512x1024.numel_eq x = Fin.cons ⟨0, Nat.one_pos⟩ x :=
  Shape.reshapeEquiv_cons_one _ x

theorem store_snd (p : Fin 8) {o : Fin 3 → Nat} (ho : o = ![p.val, 0, 0]) (h) (f : S8x512x512.Idx → Elt F .fp8e4m3) (v : FVec F S512x512 .fp8e4m3) :
    ∀ i ∈ slotSet p, (sndM.access (Rect.unit (s := S8x512x512) o S1x512x512.size h)).write (Elt F) f (lead1 v) Finset.univ i = inSlot v i := by
  subst ho
  intro i hi
  rw [← snd_set p rfl h, View.set_reshape] at hi
  obtain ⟨x, rfl⟩ := View.exists_of_mem_set_slice hi
  refine (View.write_emb_of_mem (v := sndM.access (Rect.unit (s := S8x512x512) ![p.val, 0, 0] S1x512x512.size h)) f (lead1 v) (Finset.mem_univ x)).trans ?_
  show v _ = v _
  refine congrArg v (idx2_ext ?_ ?_)
  · show _ = (((Rect.unit (s := S8x512x512) ![p.val, 0, 0] S1x512x512.size h).emb x) 1).val
    rw [Rect.emb_apply]; simp
  · show _ = (((Rect.unit (s := S8x512x512) ![p.val, 0, 0] S1x512x512.size h).emb x) 2).val
    rw [Rect.emb_apply]; simp

/-! ## What a copy leaves -/

/-- A block copied from a send slot into a receive slot. -/
theorem land_rcv (p q : Fin 8) {o o' : Fin 3 → Nat} (ho : o = ![p.val, 0, 0]) (ho' : o' = ![q.val, 0, 0]) (h h')
    (fd : S8x512x512.Idx → Elt F .fp8e4m3) (v : FVec F S512x512 .fp8e4m3) :
    ∀ i ∈ slotSet q, (slotM rcvM o' h').view.write (Elt F) fd ((slotM sndM o h).view.read (Elt F) (inSlot v)) Finset.univ i = inSlot v i := by
  subst ho; subst ho'
  intro i hi
  rw [← rcv_set q rfl h'] at hi
  obtain ⟨x, -, rfl⟩ := Finset.mem_map.mp hi
  refine (View.write_emb_of_mem (v := (slotM rcvM ![q.val, 0, 0] h').view) fd _ (Finset.mem_univ x)).trans ?_
  show v _ = v _
  refine congrArg v (idx2_ext ?_ ?_)
  · show (((Rect.unit (s := S8x512x512) ![p.val, 0, 0] S1x512x512.size h).emb _) 1).val = (((Rect.unit (s := S8x512x512) ![q.val, 0, 0] S1x512x512.size h').emb _) 1).val
    rw [Rect.emb_apply, Rect.emb_apply]; simp
  · show (((Rect.unit (s := S8x512x512) ![p.val, 0, 0] S1x512x512.size h).emb _) 2).val = (((Rect.unit (s := S8x512x512) ![q.val, 0, 0] S1x512x512.size h').emb _) 2).val
    rw [Rect.emb_apply, Rect.emb_apply]; simp

/-- A half of a row block of weights copied into the same half of a slot. -/
theorem land_half (p : Fin 8) (s : Fin 3) (e : Fin 2) {o : Fin 2 → Nat} {o' : Fin 3 → Nat} (ho : o = ![512 * p.val, 1024 * e.val])
    (ho' : o' = ![s.val, 0, 1024 * e.val]) (h h') (fd : S3x512x2048.Idx → Elt F .f32) (w : S4096x2048.Idx → Elt F .f32) :
    ∀ i ∈ halfSet (s, e), (halfM o' h').view.write (Elt F) fd ((wPart o h).view.read (Elt F) w) Finset.univ i = inWSlot (wrows w p) i := by
  subst ho; subst ho'
  intro i hi
  rw [← half_set (s, e) rfl h'] at hi
  obtain ⟨x, -, rfl⟩ := Finset.mem_map.mp hi
  refine (View.write_emb_of_mem (v := (halfM ![s.val, 0, 1024 * e.val] h').view) fd _ (Finset.mem_univ x)).trans ?_
  show w _ = w _
  refine congrArg w (idx2_ext ?_ ?_)
  · show (((Rect.unit (s := S4096x2048) ![512 * p.val, 1024 * e.val] S512x1024.size h).emb x) 0).val
      = 512 * p.val + (((Rect.unit (s := S3x512x2048) ![s.val, 0, 1024 * e.val] S1x512x1024.size h').emb (Shape.reshapeEquiv squeezes_S1x512x1024_S512x1024.numel_eq x)) 1).val
    rw [Rect.emb_apply, Rect.emb_apply, lead_reshape_half]; simp; rfl
  · show (((Rect.unit (s := S4096x2048) ![512 * p.val, 1024 * e.val] S512x1024.size h).emb x) 1).val
      = (((Rect.unit (s := S3x512x2048) ![s.val, 0, 1024 * e.val] S1x512x1024.size h').emb (Shape.reshapeEquiv squeezes_S1x512x1024_S512x1024.numel_eq x)) 2).val
    rw [Rect.emb_apply, Rect.emb_apply, lead_reshape_half]; simp; rfl

end Cert.Ring

end
-- ==== Proof.Sched.lean ====
/-
  The protocol of the exchange, and what it hands over.

  Device `c` of eight. On each device there are seventeen cells that carry something between devices:

  * the barrier cell: every OTHER device adds one unit to it at its start, and the device waits for seven. The unit that
    device `d` adds to `c`'s barrier hands over slot `c` of `d`'s receive buffer, which `c` is about to write;
  * send cell `i`: the device's own transfer `i` adds one block's credit to it when its source has been read; the wait on
    it, at the end, gives slot `i` of the send buffer back;
  * receive cell `p`: the transfer from device `p` adds one block's credit to it; the wait on it hands over slot `p` of
    the receive buffer, holding the 512 rows of `p`'s left factor that belong to this device, in the narrow format.

  Order on device `c`: seven signals; the barrier wait; seven transfers; then for each source block its receive wait;
  last the seven send waits. A device owes others only between its first signal and its last transfer. Levels: send
  cells 0, barrier cells 1, receive cells 2, so every wait that can happen while something is owed is below it.

  The weights are copied on the device itself, through six more semaphores, with nothing owed to anybody.
-/
module

public import proofs.«01_k».proof.Proof.Views
public import Idealize.ShloMosaic.Lib.Rounds
public import Idealize.ShloMosaic.Lib.Transfers

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 8)
abbrev UU : Type := UR sig nD τ × (UB × Counters)

local notation "𝕄" => MT nD τ sig Unit (Elt F) ℕ UU ℕ

abbrev EP : Emb (UR sig nD τ) 𝕄 := embL
def ER : Emb UB 𝕄 :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters 𝕄 := countersEmb

abbrev 𝒱₀ : Variants := Variants.none

/-! ## Who sends to whom -/

/-- The device whose block the `k`-th product takes: itself, the rest of its group of four, the other group. -/
def ordv (c : Dev nD) (k : Fin 8) : Nat :=
  match k with
  | 0 => c.val
  | 1 => 4 * (c.val / 4) + (c.val % 4 + 1) % 4
  | 2 => 4 * (c.val / 4) + (c.val % 4 + 3) % 4
  | 3 => 4 * (c.val / 4) + (c.val % 4 + 2) % 4
  | 4 => 4 - 4 * (c.val / 4) + (c.val % 4 + 0) % 4
  | 5 => 4 - 4 * (c.val / 4) + (c.val % 4 + 1) % 4
  | 6 => 4 - 4 * (c.val / 4) + (c.val % 4 + 3) % 4
  | 7 => 4 - 4 * (c.val / 4) + (c.val % 4 + 2) % 4
theorem ordv_lt : ∀ (c : Dev nD) (k : Fin 8), ordv c k < 8 := by decide +kernel
def ord (c : Dev nD) (k : Fin 8) : Dev nD := ⟨ordv c k, ordv_lt c k⟩
theorem ord_zero (c : Dev nD) : ord c 0 = c := rfl
theorem ord_bij : ∀ c : Dev nD, Function.Bijective (ord c) := by
  have h : ∀ c : Dev nD, (∀ i j, ord c i = ord c j → i = j) := by decide +kernel
  exact fun c => Finite.injective_iff_bijective.mp fun i j => h c i j
def ordE (c : Dev nD) : Fin 8 ≃ Dev nD := Equiv.ofBijective (ord c) (ord_bij c)
theorem ordE_apply (c : Dev nD) (k : Fin 8) : ordE c k = ord c k := rfl

/-- The position among the products of the `i`-th transfer's target. -/
def sIdx (i : Fin 7) : Fin 8 := match i with
  | 0 => 4 | 1 => 5 | 2 => 6 | 3 => 7 | 4 => 1 | 5 => 2 | 6 => 3
/-- The target of the `i`-th transfer. -/
def tgt (c : Dev nD) (i : Fin 7) : Dev nD := ord c (sIdx i)
/-- The device the `d`-th signal goes to. -/
def sg (c : Dev nD) (d : Fin 7) : Dev nD := ⟨(c.val + (d.val + 1)) % 8, Nat.mod_lt _ (by decide)⟩
/-- The source of the `j`-th block waited for. -/
def src (c : Dev nD) (j : Fin 7) : Dev nD := ord c j.succ

theorem tgt_inj : ∀ (c : Dev nD) (i j : Fin 7), tgt c i = tgt c j → i = j := by decide +kernel
theorem sg_inj : ∀ (c : Dev nD) (i j : Fin 7), sg c i = sg c j → i = j := by decide +kernel
theorem src_inj : ∀ (c : Dev nD) (i j : Fin 7), src c i = src c j → i = j := by decide +kernel
def tgtE (c : Dev nD) : Fin 7 ↪ Dev nD := ⟨tgt c, fun i j => tgt_inj c i j⟩
def sgE (c : Dev nD) : Fin 7 ↪ Dev nD := ⟨sg c, fun i j => sg_inj c i j⟩
def srcE (c : Dev nD) : Fin 7 ↪ Dev nD := ⟨src c, fun i j => src_inj c i j⟩
theorem others_tgt : ∀ c : Dev nD, Finset.univ.erase c = Finset.univ.map (tgtE c) := by decide +kernel
theorem others_sg : ∀ c : Dev nD, Finset.univ.erase c = Finset.univ.map (sgE c) := by decide +kernel
theorem others_src : ∀ c : Dev nD, Finset.univ.erase c = Finset.univ.map (srcE c) := by decide +kernel
theorem tgt_ne : ∀ (c : Dev nD) (i : Fin 7), tgt c i ≠ c := by decide +kernel
theorem sg_ne : ∀ (c : Dev nD) (i : Fin 7), sg c i ≠ c := by decide +kernel
theorem src_ne : ∀ (c : Dev nD) (i : Fin 7), src c i ≠ c := by decide +kernel

/-! ## The cells -/

abbrev barS : Sem sig := (SemArray.scalar (sig.barrier 0 rfl) : Sems sig S_).sem
def sendS (i : Fin 8) : DmaSem sig := (⟨4 + i.val, by omega⟩ : Fin 26)
def recvS (p : Fin 8) : DmaSem sig := (⟨12 + p.val, by omega⟩ : Fin 26)
def wS (s : Fin 3) (h : Fin 2) : DmaSem sig := (⟨20 + (2 * s.val + h.val), by omega⟩ : Fin 26)

theorem sendS_eq (p : Fin 8) {o : Fin 1 → Nat} (ho : o = ![p.val]) (h) :
    ((SemArray.slice cc0_scratch3 (Rect.unit (s := S8) o S1.size h)).squeeze S_ squeezes_S1_S_).sem = sendS p := by
  subst ho; revert p; decide +kernel
theorem recvS_eq (p : Fin 8) {o : Fin 1 → Nat} (ho : o = ![p.val]) (h) :
    ((SemArray.slice cc0_scratch4 (Rect.unit (s := S8) o S1.size h)).squeeze S_ squeezes_S1_S_).sem = recvS p := by
  subst ho; revert p; decide +kernel
theorem wS_eq (s : Fin 3) (e : Fin 2) {o : Fin 2 → Nat} (ho : o = ![s.val, e.val]) (h) :
    ((SemArray.slice cc0_scratch5 (Rect.unit (s := S3x2) o S1x1.size h)).squeeze S_ squeezes_S1x1_S_).sem = wS s e := by
  subst ho; revert s e; decide +kernel

/-- The seventeen cells of a device: barrier, send `i`, receive `p`. -/
abbrev CK : Type := Unit ⊕ (Fin 8 ⊕ Fin 8)
abbrev kBar : CK := .inl ()
abbrev kSend (i : Fin 8) : CK := .inr (.inl i)
abbrev kRecv (p : Fin 8) : CK := .inr (.inr p)
def csem : CK → SemLoc sig
  | .inl _ => .reg barS
  | .inr (.inl i) => .dma (sendS i)
  | .inr (.inr p) => .dma (recvS p)
theorem csem_inj : Function.Injective csem := by
  have h : ∀ a b : CK, csem a = csem b → a = b := by decide +kernel
  exact fun a b => h a b

abbrev kcell (ck : Dev nD × CK) : GSem nD τ sig := ((ck.1 : Thread nD τ), csem ck.2)
abbrev barCell (c : Dev nD) : GSem nD τ sig := ((c : Thread nD τ), .reg barS)
abbrev sendCell (c : Dev nD) (i : Fin 8) : GSem nD τ sig := ((c : Thread nD τ), .dma (sendS i))
abbrev recvCell (c : Dev nD) (p : Fin 8) : GSem nD τ sig := ((c : Thread nD τ), .dma (recvS p))

theorem kcell_injective : Function.Injective kcell := by
  rintro ⟨c, k⟩ ⟨c', k'⟩ h
  have h1 : c = c' := by have := congrArg (fun g : GSem nD τ sig => g.1.1) h; exact this
  exact Prod.ext h1 (csem_inj (congrArg Prod.snd h))

/-- Which of the seventeen a semaphore is. -/
def kindOf (sm : SemLoc sig) : Option CK := if h : ∃ k : CK, csem k = sm then some h.choose else none
theorem kindOf_csem (k : CK) : kindOf (csem k) = some k := by
  unfold kindOf
  have h : ∃ k' : CK, csem k' = csem k := ⟨k, rfl⟩
  rw [dif_pos h]; exact congrArg some (csem_inj h.choose_spec)
theorem kindOf_some {sm : SemLoc sig} {k : CK} (h : kindOf sm = some k) : sm = csem k := by
  unfold kindOf at h
  split at h
  · rename_i h'; exact h'.choose_spec.symm.trans (congrArg csem (Option.some.inj h))
  · cases h

/-- One block's credit. -/
abbrev N : ℕ := (slotM rcvM ![0, 0, 0] inb_S8x512x512_S1x512x512_0_0_0).view.dmaCredit
theorem N_pos : 0 < N := View.dmaCredit_pos _ (by decide)
theorem credit_rcv {o : Fin 3 → Nat} (h) : (slotM rcvM o h).view.dmaCredit = N := rfl
theorem credit_snd {o : Fin 3 → Nat} (h) : (slotM sndM o h).view.dmaCredit = N := rfl

/-- The credit of one half of a weight block. -/
abbrev Nw : ℕ := (halfM ![0, 0, 0] inb_S3x512x2048_S1x512x1024_0_0_0).view.dmaCredit
theorem Nw_pos : 0 < Nw := View.dmaCredit_pos _ (by decide)
theorem credit_half {o : Fin 3 → Nat} (h) : (halfM o h).view.dmaCredit = Nw := rfl

/-! ## Contents -/

variable (m : (ℓ : Loc nD τ sig) → Buf (Elt F) ℓ) (ρ : Dev nD → PrngReg)

/-- Device `c`'s columns of the left factor, as staged; the two scales as staged; the weights. -/
def xstg (c : Dev nD) : S4096x512.Idx → Elt F .f32 := (win0_0.blk (0 : Fin 1)).view.read (Elt F) (m ((c : Thread nD τ).loc main_arg0))
def sxstg (c : Dev nD) : S1.Idx → Elt F .f32 := (win0_1.blk (0 : Fin 1)).view.read (Elt F) (m ((c : Thread nD τ).loc main_arg2))
def swstg (c : Dev nD) : S1.Idx → Elt F .f32 := (win0_2.blk (0 : Fin 1)).view.read (Elt F) (m ((c : Thread nD τ).loc main_arg3))
def wmem (c : Dev nD) : S4096x2048.Idx → Elt F .f32 := m ((c : Thread nD τ).loc main_arg1)

/-- The rows of `p`'s left factor that device `t` needs, in the narrow format. -/
def blk8 (p t : Dev nD) : FVec F S512x512 .fp8e4m3 := truncf .fp8e4m3 (xrows (xstg m p) t) bitsLt_fp8e4m3_f32

abbrev sndPts (c : Dev nD) (p : Fin 8) (f : S8x512x512.Idx → Elt F .fp8e4m3) : sProp 𝕄 :=
  iprop((c : Thread nD τ).loc cc0_scratch0 ↦[slotSet p]{fullShare} f)
abbrev rcvPts (c : Dev nD) (p : Fin 8) (f : S8x512x512.Idx → Elt F .fp8e4m3) : sProp 𝕄 :=
  iprop((c : Thread nD τ).loc cc0_scratch1 ↦[slotSet p]{fullShare} f)
abbrev halfPts (c : Dev nD) (k : Fin 3 × Fin 2) (f : S3x512x2048.Idx → Elt F .f32) : sProp 𝕄 :=
  iprop((c : Thread nD τ).loc cc0_scratch2 ↦[halfSet k]{fullShare} f)
abbrev partPts (c : Dev nD) (k : Fin 8 × Fin 2) : sProp 𝕄 :=
  iprop((c : Thread nD τ).loc main_arg1 ↦[partSet k]{fullShare} wmem m c)

/-! ## The schedule -/

/-- What device `d`'s unit on `c`'s barrier hands to `c`. -/
def barPay (c d : Dev nD) : sProp 𝕄 := iprop(∃ f, rcvPts (F := F) d c f)
/-- Slot `i` of the send buffer, given back. -/
def sendPay (c : Dev nD) (i : Fin 8) : sProp 𝕄 := iprop(∃ f, sndPts (F := F) c i f)
/-- Slot `p` of the receive buffer, holding `p`'s block for `c`. -/
def recvPay (c p : Dev nD) : sProp 𝕄 := rcvPts c p (inSlot (blk8 m p c))

def ringRd : Rounds.Schedule (GSem nD τ sig) (Fin 8) 𝕄 where
  duties g r := if r = 0 ∧ g.1.2 = .tc then
      match kindOf g.2 with
      | some (.inl _) => Finset.univ.erase g.1.1
      | some (.inr (.inl i)) => if i = 7 then ∅ else {0}
      | some (.inr (.inr p)) => if p = g.1.1 then ∅ else {0}
      | none => ∅
    else ∅
  unitless _ := False
  amount g _ _ := if g.2 = .reg barS then 1 else N
  payload g _ d :=
    match kindOf g.2 with
    | some (.inl _) => barPay g.1.1 d
    | some (.inr (.inl i)) => sendPay g.1.1 i
    | some (.inr (.inr p)) => recvPay m g.1.1 p
    | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 8) :
    BI.Storable (upEmb : UEmb _ 𝕄) ((ringRd (F := F) m).payload g r d) := by
  dsimp only [ringRd]
  split
  · unfold barPay; infer_instance
  · unfold sendPay; infer_instance
  · unfold recvPay; infer_instance
  · infer_instance

section Sched
variable (c : Dev nD)

theorem dma_ne_bar (q : DmaSem sig) : (SemLoc.dma q : SemLoc sig) ≠ .reg barS := fun h => by cases h
theorem kind_bar : kindOf (.reg barS) = some kBar := kindOf_csem kBar
theorem kind_send (i : Fin 8) : kindOf (.dma (sendS i)) = some (kSend i) := kindOf_csem (kSend i)
theorem kind_recv (p : Fin 8) : kindOf (.dma (recvS p)) = some (kRecv p) := kindOf_csem (kRecv p)

theorem duties_bar : (ringRd (F := F) m).duties (barCell c) 0 = Finset.univ.erase c := by
  dsimp only [ringRd]; rw [if_pos ⟨rfl, rfl⟩, kind_bar]
theorem duties_send (i : Fin 8) (h : i ≠ 7) : (ringRd (F := F) m).duties (sendCell c i) 0 = {0} := by
  dsimp only [ringRd]; rw [if_pos ⟨rfl, rfl⟩, kind_send]; exact if_neg h
theorem duties_send7 : (ringRd (F := F) m).duties (sendCell c 7) 0 = ∅ := by
  dsimp only [ringRd]; rw [if_pos ⟨rfl, rfl⟩, kind_send]; exact if_pos rfl
theorem duties_recv (p : Dev nD) (h : p ≠ c) : (ringRd (F := F) m).duties (recvCell c p) 0 = {0} := by
  dsimp only [ringRd]; rw [if_pos ⟨rfl, rfl⟩, kind_recv]; exact if_neg h
theorem duties_recv_self : (ringRd (F := F) m).duties (recvCell c c) 0 = ∅ := by
  dsimp only [ringRd]; rw [if_pos ⟨rfl, rfl⟩, kind_recv]; exact if_pos rfl
theorem duties_later (g : GSem nD τ sig) : ∀ r, 1 ≤ r → (ringRd (F := F) m).duties g r = ∅ :=
  fun r hr => by dsimp only [ringRd]; rw [if_neg fun h => by omega]
theorem duties_none {g : GSem nD τ sig} (h : (ringRd (F := F) m).duties g 0 = ∅) : ∀ r, 0 ≤ r → (ringRd (F := F) m).duties g r = ∅ :=
  fun r _ => by rcases Nat.eq_zero_or_pos r with rfl | hr; exacts [h, duties_later m g r hr]

theorem amount_bar (d : Fin 8) : (ringRd (F := F) m).amount (barCell c) 0 d = 1 := by dsimp only [ringRd]; exact if_pos rfl
theorem amount_dma (q : DmaSem sig) (d : Fin 8) : (ringRd (F := F) m).amount ((c : Thread nD τ), .dma q) 0 d = N := by
  dsimp only [ringRd]; exact if_neg (dma_ne_bar q)

theorem expect_bar : (ringRd (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ, Fintype.card_fin, smul_eq_mul]
theorem expect_send (i : Fin 8) (h : i ≠ 7) : (ringRd (F := F) m).expect (sendCell c i) 0 = N := by
  unfold Schedule.expect Schedule.amountOf; rw [duties_send m c i h, Finset.sum_singleton, amount_dma]
theorem expect_recv (p : Dev nD) (h : p ≠ c) : (ringRd (F := F) m).expect (recvCell c p) 0 = N := by
  unfold Schedule.expect Schedule.amountOf; rw [duties_recv m c p h, Finset.sum_singleton, amount_dma]

theorem payload_bar (d : Dev nD) : (ringRd (F := F) m).payload (barCell c) 0 d = barPay c d := by dsimp only [ringRd]; rw [kind_bar]
theorem payload_send (i d : Fin 8) : (ringRd (F := F) m).payload (sendCell c i) 0 d = sendPay c i := by dsimp only [ringRd]; rw [kind_send]
theorem payload_recv (p : Dev nD) (d : Fin 8) : (ringRd (F := F) m).payload (recvCell c p) 0 d = recvPay m c p := by dsimp only [ringRd]; rw [kind_recv]

/-- The barrier's round: every other device's payload. -/
theorem rest_bar : bigSep ((ringRd (F := F) m).duties (barCell c) 0 \ ∅) (fun d => (ringRd (F := F) m).payload (barCell c) 0 d)
    = bigSep (Finset.univ.erase c) fun d : Dev nD => barPay (F := F) c d := by
  rw [Finset.sdiff_empty, duties_bar]; exact bigSep_congr fun d _ => payload_bar m c d
theorem rest_send (i : Fin 8) (h : i ≠ 7) : bigSep ((ringRd (F := F) m).duties (sendCell c i) 0 \ ∅) (fun d => (ringRd (F := F) m).payload (sendCell c i) 0 d) = sendPay (F := F) c i := by
  rw [Finset.sdiff_empty, duties_send m c i h, bigSep_singleton, payload_send]
theorem rest_recv (p : Dev nD) (h : p ≠ c) : bigSep ((ringRd (F := F) m).duties (recvCell c p) 0 \ ∅) (fun d => (ringRd (F := F) m).payload (recvCell c p) 0 d) = recvPay m c p := by
  rw [Finset.sdiff_empty, duties_recv m c p h, bigSep_singleton, payload_recv]

end Sched

/-! ## What each device owes -/

/-- What is owed with `k` transfers still to start: their receive credits, the next transfer's last. -/
def owesT (c : Dev nD) : ℕ → CellTallies nD τ sig Unit
  | 0 => 0
  | k + 1 => owesT c k + tallyAt (recvCell (tgt c (Fin.ofNat 7 (6 - k))) c) () N
/-- What is owed with `k` signals still to make: all the transfers, and those signals, the next one's last. -/
def owesB (c : Dev nD) : ℕ → CellTallies nD τ sig Unit
  | 0 => owesT c 7
  | k + 1 => owesB c k + tallyAt (barCell (sg c (Fin.ofNat 7 (6 - k)))) () 1
def O₀ (c : Dev nD) : CellTallies nD τ sig Unit := owesB c 7

theorem owesT_eq (c : Dev nD) : owesT c 7 = ∑ q ∈ Finset.univ.erase c, tallyAt (recvCell q c) () N := by
  rw [others_tgt c, Finset.sum_map, Fin.sum_univ_seven]
  show 0 + _ + _ + _ + _ + _ + _ + _ = _
  rw [zero_add]
  show tallyAt (recvCell (tgt c 6) c) () N + tallyAt (recvCell (tgt c 5) c) () N + tallyAt (recvCell (tgt c 4) c) () N + tallyAt (recvCell (tgt c 3) c) () N
    + tallyAt (recvCell (tgt c 2) c) () N + tallyAt (recvCell (tgt c 1) c) () N + tallyAt (recvCell (tgt c 0) c) () N
    = tallyAt (recvCell (tgt c 0) c) () N + tallyAt (recvCell (tgt c 1) c) () N + tallyAt (recvCell (tgt c 2) c) () N + tallyAt (recvCell (tgt c 3) c) () N
    + tallyAt (recvCell (tgt c 4) c) () N + tallyAt (recvCell (tgt c 5) c) () N + tallyAt (recvCell (tgt c 6) c) () N
  ac_rfl
theorem O₀_eq (c : Dev nD) : O₀ c = (∑ q ∈ Finset.univ.erase c, tallyAt (recvCell q c) () N) + ∑ q ∈ Finset.univ.erase c, tallyAt (barCell q) () 1 := by
  rw [← owesT_eq, others_sg c, Finset.sum_map, Fin.sum_univ_seven]
  show owesT c 7 + tallyAt (barCell (sg c 6)) () 1 + tallyAt (barCell (sg c 5)) () 1 + tallyAt (barCell (sg c 4)) () 1 + tallyAt (barCell (sg c 3)) () 1
    + tallyAt (barCell (sg c 2)) () 1 + tallyAt (barCell (sg c 1)) () 1 + tallyAt (barCell (sg c 0)) () 1
    = owesT c 7 + (tallyAt (barCell (sg c 0)) () 1 + tallyAt (barCell (sg c 1)) () 1 + tallyAt (barCell (sg c 2)) () 1 + tallyAt (barCell (sg c 3)) () 1
    + tallyAt (barCell (sg c 4)) () 1 + tallyAt (barCell (sg c 5)) () 1 + tallyAt (barCell (sg c 6)) () 1)
  ac_rfl

def L (g : GSem nD τ sig) : Finset Unit := if g.1.2 = .tc then {()} else ∅
/-- Barrier cells at 1, receive cells at 2, everything else at 0. -/
def lv (g : GSem nD τ sig) (_ : Unit) : ℕ := match kindOf g.2 with
  | some (.inl _) => 1
  | some (.inr (.inr _)) => 2
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_recv (c p : Dev nD) : lv (recvCell c p) () = 2 := by unfold lv; rw [kind_recv]

theorem sum_recv_apply (c : Dev nD) (g : GSem nD τ sig) (u : Unit) :
    (∑ q ∈ Finset.univ.erase c, tallyAt (recvCell q c) () N : CellTallies nD τ sig Unit) g u
      = ∑ q ∈ Finset.univ.erase c, if g = recvCell q c ∧ u = () then N else 0 := by
  rw [Finset.sum_apply, Finsupp.finset_sum_apply]
  exact Finset.sum_congr rfl fun q _ => tallyAt_apply _ _ _ _ _
theorem sum_bar_apply (c : Dev nD) (g : GSem nD τ sig) (u : Unit) :
    (∑ q ∈ Finset.univ.erase c, tallyAt (barCell q) () 1 : CellTallies nD τ sig Unit) g u
      = ∑ q ∈ Finset.univ.erase c, if g = barCell q ∧ u = () then 1 else 0 := by
  rw [Finset.sum_apply, Finsupp.finset_sum_apply]
  exact Finset.sum_congr rfl fun q _ => tallyAt_apply _ _ _ _ _

theorem owesT_pos {c : Dev nD} {g : GSem nD τ sig} {u : Unit} (h : 0 < owesT c 7 g u) : ∃ q, g = recvCell q c := by
  rw [owesT_eq, sum_recv_apply] at h
  obtain ⟨q, -, hq⟩ := Finset.exists_ne_zero_of_sum_ne_zero (Nat.pos_iff_ne_zero.mp h)
  by_contra hn
  exact hq (if_neg fun h' => hn ⟨q, h'.1⟩)
theorem O₀_pos {c : Dev nD} {g : GSem nD τ sig} {u : Unit} (h : 0 < O₀ c g u) : (∃ q, g = recvCell q c) ∨ ∃ q, g = barCell q := by
  rw [O₀_eq, Pi.add_apply, Finsupp.add_apply, sum_bar_apply, ← owesT_eq] at h
  rcases Nat.eq_zero_or_pos (owesT c 7 g u) with h0 | h0
  · rw [h0, Nat.zero_add] at h
    obtain ⟨q, -, hq⟩ := Finset.exists_ne_zero_of_sum_ne_zero (Nat.pos_iff_ne_zero.mp h)
    by_contra hn
    exact hq (if_neg fun h' => hn (.inr ⟨q, h'.1⟩))
  · exact .inl (owesT_pos h0)

/-- The staging waits: their semaphores are none of the seventeen. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; dsimp only [lv]; rw [hq])
      (fun g u hg => by
        rcases O₀_pos hg with ⟨_, rfl⟩ | ⟨_, rfl⟩
        · rw [lv_recv]; decide
        · rw [lv_bar]; decide)
  · rw [MayWait_zero]; iintro -; iempintro

theorem mayWait_bar (c : Dev nD) : (levAts L lv : sProp 𝕄) ⊢ MayWait (c : Thread nD τ) (.reg barS) () (owesT c 7) :=
  MayOwe.of_cut (L := L) (lev := lv) 1 (fun p hp => by rw [Finset.mem_singleton.mp hp, L_tc]; exact Finset.mem_singleton_self _)
    (fun g u hg => by obtain ⟨_, rfl⟩ := owesT_pos hg; exact Finset.mem_singleton_self _)
    (fun p hp => by rw [Finset.mem_singleton.mp hp]; exact (lv_bar c).le)
    (fun g u hg => by obtain ⟨_, rfl⟩ := owesT_pos hg; rw [lv_recv]; decide)

end Cert.Ring

end
-- ==== Proof.Stages.lean ====
/-
  The steps of the body, one lemma for each kind of step: a signal, the barrier wait, a transfer, the copies of one
  weight block and the waits for them, the first product, a product with a received block, a send wait, the last
  lines. Each is stated once, for every slot, device and step number, over the rest of the program.
-/
module

public import proofs.«01_k».proof.Proof.Sched
public import Idealize.ShloMosaic.Lib.Tactic
public import Idealize.ShloMosaic.Lib.Pipeline.Value

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The arithmetic of one device -/

/-- A block's product with a block of the weights, both in the middle format. -/
def mmul (a : FVec F S512x512 .bf16) (w : FVec F S512x2048 .f32) : FVec F S512x2048 .f32 :=
  matmul dot_S512x512_S512x2048_S512x2048_1_0_0_1_n_n none a (truncf .bf16 w bitsLt_bf16_f32) (constant S512x2048 .f32 0x00000000#32)
/-- One received block's product added on. -/
def accStep (o : FVec F S512x2048 .f32) (b : FVec F S512x512 .fp8e4m3) (w : FVec F S512x2048 .f32) : FVec F S512x2048 .f32 :=
  addf o (mmul (extf .bf16 b bitsLt_fp8e4m3_bf16) w)
/-- The accumulator after the product with the device's own block and `k` received ones. -/
def acc (c : Dev nD) : ℕ → FVec F S512x2048 .f32
  | 0 => mmul (truncf .bf16 (xrows (xstg m c) c) bitsLt_bf16_f32) (wrows (wmem m c) c)
  | k + 1 => accStep (acc c k) (blk8 m (src c (Fin.ofNat 7 k)) c) (wrows (wmem m c) (src c (Fin.ofNat 7 k)))
/-- The last lines: the product of the scales, and the negative entries cut off. -/
def finish (a : FVec F S512x2048 .f32) (sx sw : F .f32) : FVec F S512x2048 .f32 :=
  maximumf (mulf a (broadcast S512x2048 (Scalar.mulf sx sw))) (broadcast S512x2048 (Scalar.ofBits .f32 0x00000000#32))
def outAt (c : Dev nD) : FVec F S512x2048 .f32 := finish (acc m c 7) (sxstg m c (ix1 0)) (swstg m c (ix1 0))

/-! ## What every device knows -/

variable (K : Dev nD × CK → ℕ)

/-- Every cell of every device follows the schedule, and has begun. -/
def records : sProp 𝕄 :=
  iprop((bigSep Finset.univ fun ck : Dev nD × CK => cellInv ER (ringRd m) (K ck) (kcell ck)) ∗ bigSep Finset.univ fun ck : Dev nD × CK => reached ER (kcell ck) 0)
instance records_persistent : BI.Persistent (records (F := F) m K) := by unfold records; infer_instance

theorem inv_at (ck : Dev nD × CK) : records (F := F) m K ⊢ cellInv ER (ringRd m) (K ck) (kcell ck) := by
  unfold records
  exact (BI.sep_and.trans and_elimL).trans (bigSep_elim (Finset.mem_univ ck))
theorem reached_at (ck : Dev nD × CK) : records (F := F) m K ⊢ reached ER (kcell ck) 0 := by
  unfold records
  exact (BI.sep_and.trans and_elimR).trans (bigSep_elim (Finset.mem_univ ck))

/-- What the device owes, whatever it has waited for. -/
def owesX (c : Dev nD) (O : CellTallies nD τ sig Unit) : sProp 𝕄 := iprop(∃ W, owes (c : Thread nD τ) O W)

/-! ## Signals and the barrier -/

theorem st_signal (c n : Dev nD) (d : Fin 7) (hn : n = sg c d) (O : CellTallies nD τ sig Unit)
    {α : Type} {Q : α → sProp 𝕄} {k : PUnit → Prog (TpuEff nD τ sig (Elt F) Λ₀ .tc) α} :
    iprop(records m K ∗ owesX (F := F) c (O + tallyAt (barCell (sg c d)) () 1) ∗ dutyTok ER (barCell (sg c d)) 0 c ∗ (∃ f, rcvPts (F := F) c (sg c d) f))
      ⊢ iprop((owesX (F := F) c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS (1#32 : BitVec 32).toInt) k) Q) := by
  subst hn
  unfold owesX
  iintro ⟨#HR, ⟨%W, HO⟩, Ht, Hp⟩ Hk
  iapply (Rounds.wp_signal 𝒱₀ ER (ringRd m) (c : Thread nD τ) none (dst := (sg c d : Thread nD τ)) (κ := K (sg c d, kBar))
      (d := c) (by rw [duties_bar]; exact Finset.mem_erase.mpr ⟨(sg_ne c d).symm, Finset.mem_univ _⟩) ((amount_bar m (sg c d) c).trans (by decide)) () O rfl)
    $$ [HO Ht Hp]
  · isplitr; · iapply (inv_at m K (sg c d, kBar)); iexact HR
    isplitl [HO]; · iexact HO
    isplitl [Ht]; · iexact Ht
    isplitl [Hp]
    · rw [payload_bar]; unfold barPay; iexact Hp
    · iapply (reached_at m K (sg c d, kBar)); iexact HR
  iintro HO
  iapply Hk
  iexists W; iexact HO

theorem st_barrier (c : Dev nD) {α : Type} {Q : α → sProp 𝕄} {k : PUnit → Prog (TpuEff nD τ sig (Elt F) Λ₀ .tc) α} :
    iprop(records m K ∗ levAts L lv ∗ owesX (F := F) c (owesT c 7) ∗ cred (tallyAt (barCell c) () 7) ∗ atPos ER (barCell c) 0 ∅ 0)
      ⊢ iprop(((owesX (F := F) c (owesT c 7) ∗ atPos ER (barCell c) 1 ∅ 0 ∗ bigSep Finset.univ fun i : Fin 7 => iprop(∃ f, rcvPts (F := F) (tgt c i) c f)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  unfold owesX
  iintro ⟨#HR, #Hlev, ⟨%W, HO⟩, Hc, Hat⟩ Hk
  iapply (Rounds.wp_wait_rest_token 𝒱₀ ER (ringRd m) (c : Thread nD τ) none (κ := K (c, kBar))
      (wpE_semWait_eq 𝒱₀ (c : Thread nD τ) none Set.univ) (Set.mem_univ _) () (O := owesT c 7) (W := W) (R := 0) (m := 0) (T := ∅)
      (by rw [expect_bar]; decide)) $$ [Hc HO Hat]
  · isplitr; · iapply (inv_at m K (c, kBar)); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar m c).trans (by rw [others_tgt c, bigSep_map]))) $$ Hpay
  iapply Hk
  isplitl [HO]; · iexists _; iexact HO
  isplitl [Hat]; · iexact Hat
  iexact Hp

/-! ## A transfer -/

/-- The transfer itself: the send slot's share comes back through the send cell, the written receive slot goes to the
    target through its receive cell. -/
theorem send_cells (c t : Dev nD) (i : Fin 8) (hi : i ≠ 7) (ht : c ≠ t) (O : CellTallies nD τ sig Unit) (W : Waits sig Unit)
    {os : Fin 3 → Nat} {hs} (hos : os = ![i.val, 0, 0]) {od : Fin 3 → Nat} {hd} (hod : od = ![c.val, 0, 0])
    (fd : S8x512x512.Idx → Elt F .fp8e4m3)
    {hsc : (slotM rcvM od hd).view.ref.isScScratch = false} {hsrc hdst}
    {hsem : DmaTarget.Typed .vmem (.dma (recvS c)) (.remote (Dev.tc t : Thread nD τ) (slotM rcvM od hd) (.dma (sendS i)) hsc)}
    {α : Type} {Q : α → sProp 𝕄} {k : PUnit → Prog (TpuEff nD τ sig (Elt F) Λ₀ .tc) α} :
    iprop(cellInv ER (ringRd m) (K (c, kSend i)) (sendCell c i) ∗ cellInv ER (ringRd m) (K (t, kRecv c)) (recvCell t c)
        ∗ ((c : Thread nD τ).loc cc0_scratch0 ↦[(slotM sndM os hs).view.set]{fullShare} inSlot (blk8 m c t))
        ∗ ((t : Thread nD τ).loc cc0_scratch1 ↦[(slotM rcvM od hd).view.set]{fullShare} fd)
        ∗ owes (c : Thread nD τ) (O + tallyAt (recvCell t c) () N) W
        ∗ dutyTok ER (sendCell c i) 0 0 ∗ reached ER (sendCell c i) 0 ∗ dutyTok ER (recvCell t c) 0 0 ∗ reached ER (recvCell t c) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM sndM os hs) (.remote (Dev.tc t : Thread nD τ) (slotM rcvM od hd) (.dma (sendS i)) hsc) (.dma (recvS c)) hsrc hdst hsem) k) Q) :=
  Rounds.wp_send_pointsTo 𝒱₀ ER (ringRd m) (c : Thread nD τ) none (κ₁ := K (c, kSend i)) (κ₂ := K (t, kRecv c))
    (src := slotM sndM os hs) (dst := slotM rcvM od hd) (sS := .dma (sendS i)) (sem := .dma (recvS c)) (c' := (t : Thread nD τ))
    (r₁ := 0) (r₂ := 0) (d₁ := 0) (d₂ := 0) (fs := inSlot (blk8 m c t)) (fd := fd)
    (by rw [duties_send m c i hi]; exact Finset.mem_singleton_self _) (by rw [duties_recv m t c ht]; exact Finset.mem_singleton_self _)
    () () N (by exact credit_rcv hd) (amount_dma m c _ 0) (amount_dma m t _ 0) O rfl (W := W)
    (by rw [payload_send, snd_set i hos hs]; unfold sendPay; iintro H; iexists _; iexact H)
    (by rw [payload_recv, rcv_set c hod hd]; unfold recvPay; exact Entails.of_eq (pointsTo_congr (land_rcv i c hos hod _ _ fd _)))

theorem st_send (c n : Dev nD) (i : Fin 7) (hn : n = tgt c i) (O : CellTallies nD τ sig Unit)
    {ox : Fin 2 → Nat} {hx} (hox : ox = ![512 * (tgt c i).val, 0])
    {os os' : Fin 3 → Nat} {hs hs'} (hos : os = ![i.val, 0, 0]) (hos' : os' = ![i.val, 0, 0])
    {od : Fin 3 → Nat} {hd} (hod : od = ![c.val, 0, 0])
    {ss rs : DmaSem sig} (hss : ss = sendS i.castSucc) (hrs : rs = recvS c)
    {pay : FVec F S512x512 .f32 → FVec F S1x512x512 .fp8e4m3} (hpay : ∀ v, pay v = lead1 (truncf .fp8e4m3 v bitsLt_fp8e4m3_f32))
    {h1 h2 h3 h4}
    {hsc : (slotM rcvM od hd).view.ref.isScScratch = false} {hsrc hdst}
    {hsem : DmaTarget.Typed .vmem (.dma rs) (.remote (Dev.tc n : Thread nD τ) (slotM rcvM od hd) (.dma ss) hsc)}
    {α : Type} {Q : α → sProp 𝕄} {k : PUnit → Prog (TpuEff nD τ sig (Elt F) Λ₀ .tc) α} :
    iprop(records m K ∗ owesX (F := F) c (O + tallyAt (recvCell (tgt c i) c) () N)
        ∗ ((c : Thread nD τ).loc cc0_stg0_0 ↦{fullShare} xstg m c) ∗ (∃ f, sndPts (F := F) c i.castSucc f) ∗ (∃ f, rcvPts (F := F) (tgt c i) c f)
        ∗ dutyTok ER (sendCell c i.castSucc) 0 0 ∗ dutyTok ER (recvCell (tgt c i) c) 0 0)
      ⊢ iprop(((owesX (F := F) c O ∗ ((c : Thread nD τ).loc cc0_stg0_0 ↦{fullShare} xstg m c) ∗ cred (tallyAt (sendCell c i.castSucc) () N)) -∗ wp frame (wpE (defs₀ (F := F)) 𝒱₀ (c : Thread nD τ) none) Set.univ (k ⟨⟩) Q)
          -∗ wp frame (wpE (defs₀ (F := F)) 𝒱₀ (c : Thread nD τ) none) Set.univ (.op (.load (s := S4096x512) (e := .f32) xM (Rect.unit (s := S4096x512) ox S512x512.size hx).toLoadRect h1) fun (v : FVec F S512x512 .f32) =>
            .op (.load (s := S8x512x512) (e := .fp8e4m3) sndM (Rect.unit (s := S8x512x512) os S1x512x512.size hs).toLoadRect h2) fun _ =>
            .op (.store (s := S8x512x512) (e := .fp8e4m3) sndM (Rect.unit (s := S8x512x512) os S1x512x512.size hs) (pay v) Finset.univ h3 h4) fun _ =>
            .op (.enqueueDma (slotM sndM os' hs') (.remote (Dev.tc n : Thread nD τ) (slotM rcvM od hd) (.dma ss) hsc) (.dma rs) hsrc hdst hsem) k) Q) := by
  subst hn hss hrs
  unfold owesX
  iintro ⟨#HR, ⟨%W, HO⟩, Hx, ⟨%fs, Hs⟩, ⟨%fd, Hd⟩, Ht1, Ht2⟩ Hk
  iapply (wp_load 𝒱₀ (c : Thread nD τ) none Set.univ (m := xM) (Finset.subset_univ _)) $$ Hx
  iintro Hx
  rw [load_x (tgt c i) hox]
  iapply (wp_load 𝒱₀ (c : Thread nD τ) none Set.univ (m := sndM) (load_snd_set i.castSucc hos _)) $$ Hs
  iintro Hs
  iapply (wp_store 𝒱₀ (c : Thread nD τ) none Set.univ (m := sndM) (r := Rect.unit (s := S8x512x512) os S1x512x512.size hs) (Mk := Finset.univ) (store_snd_set i.castSucc hos _)) $$ Hs
  iintro Hs
  rw [hpay]
  ihave Hs := (Entails.of_eq (pointsTo_congr (store_snd i.castSucc hos _ _ _))) $$ Hs
  rw [← snd_set i.castSucc hos' hs']
  ihave Hd := (Entails.of_eq (show rcvPts (F := F) (tgt c i) c fd = iprop((tgt c i : Thread nD τ).loc cc0_scratch1 ↦[(slotM rcvM od hd).view.set]{fullShare} fd) by
    rw [rcv_set c hod hd])) $$ Hd
  iapply (send_cells m K c (tgt c i) i.castSucc (Fin.castSucc_lt_last i).ne (tgt_ne c i).symm O W hos' hod fd) $$ [HO Hs Hd Ht1 Ht2]
  · isplitr; · iapply (inv_at m K (c, kSend i.castSucc)); iexact HR
    isplitr; · iapply (inv_at m K (tgt c i, kRecv c)); iexact HR
    isplitl [Hs]; · iexact Hs
    isplitl [Hd]; · iexact Hd
    isplitl [HO]; · iexact HO
    isplitl [Ht1]; · iexact Ht1
    isplitr; · iapply (reached_at m K (c, kSend i.castSucc)); iexact HR
    isplitl [Ht2]; · iexact Ht2
    iapply (reached_at m K (tgt c i, kRecv c)); iexact HR
  iintro ⟨Hcr, HO⟩
  iapply Hk
  isplitl [HO]; · iexists W; iexact HO
  isplitl [Hx]; · iexact Hx
  iexact Hcr

/-! ## The weights -/

/-- A weight slot, both halves together. -/
abbrev wslotPts (c : Dev nD) (s : Fin 3) (f : S3x512x2048.Idx → Elt F .f32) : sProp 𝕄 :=
  iprop((c : Thread nD τ).loc cc0_scratch2 ↦[wslotSet s]{fullShare} f)
theorem wslot_split (c : Dev nD) (s : Fin 3) (f : S3x512x2048.Idx → Elt F .f32) :
    wslotPts c s f ⊣⊢ iprop(halfPts (F := F) c (s, 0) f ∗ halfPts (F := F) c (s, 1) f) := by
  unfold wslotPts halfPts
  rw [wslotSet_halves]
  exact pointsTo_union (halfSet_disj (s, 0) (s, 1) (by intro h; cases h))

/-- One copy under way: at its wait it gives the half slot filled and the source half back. -/
def wFlight (c : Dev nD) (p : Fin 8) (s : Fin 3) (e : Fin 2) : sProp 𝕄 :=
  Transfers.Flight EC (c : Thread nD τ) (.dma (wS s e)) () Nw iprop(halfPts c (s, e) (inWSlot (wrows (wmem m c) p)) ∗ partPts m c (p, e))

theorem copy_half (c : Dev nD) (p : Fin 8) (s : Fin 3) (e : Fin 2) {o : Fin 2 → Nat} {h} (ho : o = ![512 * p.val, 1024 * e.val])
    {o' : Fin 3 → Nat} {h'} (ho' : o' = ![s.val, 0, 1024 * e.val]) {ws : DmaSem sig} (hws : ws = wS s e)
    (fd : S3x512x2048.Idx → Elt F .f32) {hsrc hdst} {hsem : DmaTarget.Typed .hbm (.dma ws) (.here (halfM o' h') : DmaTarget nD τ sig .tc .vmem S512x1024 .f32)}
    {α : Type} {Q : α → sProp 𝕄} {k : PUnit → Prog (TpuEff nD τ sig (Elt F) Λ₀ .tc) α} :
    iprop(partPts m c (p, e) ∗ halfPts c (s, e) fd ∗ semVal ((c : Thread nD τ), .dma (wS s e)) 0)
      ⊢ iprop((wFlight m c p s e -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wPart o h) (.here (halfM o' h')) (.dma ws) hsrc hdst hsem) k) Q) := by
  subst hws
  have key := Transfers.wp_dmaLocal (EC (F := F)) 𝒱₀ (defs := defs₀ (F := F)) (c : Thread nD τ) none (src := wPart o h) (dst := halfM o' h') (via := .same) (sm := .dma (wS s e))
    (hsrc := hsrc) (hdst := hdst) (hsem := hsem) (k := k) (Q := Q) (q := fullShare) (fs := wmem m c) (Sd := halfSet (s, e)) (fd := fd)
    () Nw (by exact credit_half h') Nw_pos (half_set (s, e) ho' h').subset
  rw [part_set (p, e) ho h] at key
  iintro ⟨Hp, Hh, Hv⟩ Hk
  iapply key $$ [Hp Hh Hv]
  · isplitl [Hp]; · iexact Hp
    isplitl [Hh]; · iexact Hh
    iexact Hv
  iintro HF
  iapply Hk
  unfold wFlight
  have hl : halfPts (F := F) c (s, e) ((halfM o' h').view.write (Elt F) fd ((wPart o h).view.read (Elt F) (wmem m c)) Finset.univ)
      = halfPts (F := F) c (s, e) (inWSlot (wrows (wmem m c) p)) := pointsTo_congr (land_half p s e ho ho' h h' fd (wmem m c))
  iapply (Transfers.Flight_mono (EC (F := F)) (c : Thread nD τ) (sep_mono_left (Entails.of_eq hl))) $$ HF

/-- Both copies of block `p` into slot `s`. -/
theorem st_wstart (c : Dev nD) (p : Fin 8) (s : Fin 3)
    {o0 o1 : Fin 2 → Nat} {h0 h1} (ho0 : o0 = ![512 * p.val, 0]) (ho1 : o1 = ![512 * p.val, 1024])
    {d0 d1 : Fin 3 → Nat} {g0 g1} (hd0 : d0 = ![s.val, 0, 0]) (hd1 : d1 = ![s.val, 0, 1024])
    {w0 w1 : DmaSem sig} (hw0 : w0 = wS s 0) (hw1 : w1 = wS s 1) {hsrc0 hdst0 hsrc1 hdst1}
    {hsem0 : DmaTarget.Typed .hbm (.dma w0) (.here (halfM d0 g0) : DmaTarget nD τ sig .tc .vmem S512x1024 .f32)}
    {hsem1 : DmaTarget.Typed .hbm (.dma w1) (.here (halfM d1 g1) : DmaTarget nD τ sig .tc .vmem S512x1024 .f32)}
    {α : Type} {Q : α → sProp 𝕄} {k : PUnit → Prog (TpuEff nD τ sig (Elt F) Λ₀ .tc) α} :
    iprop((partPts m c (p, 0) ∗ partPts m c (p, 1)) ∗ (∃ f, wslotPts (F := F) c s f)
        ∗ (semVal ((c : Thread nD τ), .dma (wS s 0)) 0 ∗ semVal ((c : Thread nD τ), .dma (wS s 1)) 0))
      ⊢ iprop(((wFlight m c p s 0 ∗ wFlight m c p s 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wPart o0 h0) (.here (halfM d0 g0)) (.dma w0) hsrc0 hdst0 hsem0) fun _ =>
                .op (.enqueueDma (wPart o1 h1) (.here (halfM d1 g1)) (.dma w1) hsrc1 hdst1 hsem1) k) Q) := by
  iintro ⟨⟨Hp0, Hp1⟩, ⟨%f, Hs⟩, Hv0, Hv1⟩ Hk
  ihave Hs := ((wslot_split (F := F) c s f).1) $$ Hs
  icases Hs with ⟨Hs0, Hs1⟩
  iapply (copy_half m c p s 0 (by rw [ho0]; rfl) (by rw [hd0]; rfl) hw0 f) $$ [Hp0 Hs0 Hv0]
  · isplitl [Hp0]; · iexact Hp0
    isplitl [Hs0]; · iexact Hs0
    iexact Hv0
  iintro HF0
  iapply (copy_half m c p s 1 (by rw [ho1]; rfl) (by rw [hd1]; rfl) hw1 f) $$ [Hp1 Hs1 Hv1]
  · isplitl [Hp1]; · iexact Hp1
    isplitl [Hs1]; · iexact Hs1
    iexact Hv1
  iintro HF1
  iapply Hk
  isplitl [HF0]; · iexact HF0
  iexact HF1

theorem wait_half (c : Dev nD) (p : Fin 8) (s : Fin 3) (e : Fin 2) {o : Fin 2 → Nat} {h} {o' : Fin 3 → Nat} {h'}
    {ws : DmaSem sig} (hws : ws = wS s e) {hsrc hdst}
    {α : Type} {Q : α → sProp 𝕄} {k : PUnit → Prog (TpuEff nD τ sig (Elt F) Λ₀ .tc) α} :
    iprop(wFlight m c p s e ∗ owesX (F := F) c 0)
      ⊢ iprop((((halfPts c (s, e) (inWSlot (wrows (wmem m c) p)) ∗ partPts m c (p, e)) ∗ semVal ((c : Thread nD τ), .dma (wS s e)) 0 ∗ owesX (F := F) c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ws (wPart o h) (halfM o' h') hsrc hdst) k) Q) := by
  subst hws
  unfold owesX wFlight
  iintro ⟨HF, ⟨%W, HO⟩⟩ Hk
  iapply (Transfers.wp_waitLocal (EC (F := F)) 𝒱₀ (c : Thread nD τ) none () (dstw := halfM o' h') (by exact credit_half h')) $$ [HF HO]
  · isplitl [HF]; · iexact HF
    iexact HO
  iintro ⟨HD, Hv, HO⟩
  iapply Hk
  isplitl [HD]; · iexact HD
  isplitl [Hv]; · iexact Hv
  iexists _; iexact HO

/-- The waits for both copies: the slot filled, the source and the semaphores back. -/
theorem st_wwait (c : Dev nD) (p : Fin 8) (s : Fin 3) {o0 o1 : Fin 2 → Nat} {h0 h1} {d0 d1 : Fin 3 → Nat} {g0 g1}
    {w0 w1 : DmaSem sig} (hw0 : w0 = wS s 0) (hw1 : w1 = wS s 1) {hsrc0 hdst0 hsrc1 hdst1}
    {α : Type} {Q : α → sProp 𝕄} {k : PUnit → Prog (TpuEff nD τ sig (Elt F) Λ₀ .tc) α} :
    iprop((wFlight m c p s 0 ∗ wFlight m c p s 1) ∗ owesX (F := F) c 0)
      ⊢ iprop((((partPts m c (p, 0) ∗ partPts m c (p, 1)) ∗ wslotPts c s (inWSlot (wrows (wmem m c) p))
              ∗ (semVal ((c : Thread nD τ), .dma (wS s 0)) 0 ∗ semVal ((c : Thread nD τ), .dma (wS s 1)) 0) ∗ owesX (F := F) c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 w0 (wPart o0 h0) (halfM d0 g0) hsrc0 hdst0) fun _ => .op (.waitDma2 w1 (wPart o1 h1) (halfM d1 g1) hsrc1 hdst1) k) Q) := by
  iintro ⟨⟨HF0, HF1⟩, HO⟩ Hk
  iapply (wait_half m c p s 0 hw0) $$ [HF0 HO]
  · isplitl [HF0]; · iexact HF0
    iexact HO
  iintro ⟨⟨Hs0, Hp0⟩, Hv0, HO⟩
  iapply (wait_half m c p s 1 hw1) $$ [HF1 HO]
  · isplitl [HF1]; · iexact HF1
    iexact HO
  iintro ⟨⟨Hs1, Hp1⟩, Hv1, HO⟩
  iapply Hk
  isplitl [Hp0 Hp1]; · isplitl [Hp0] <;> iassumption
  isplitl [Hs0 Hs1]
  · iapply (wslot_split (F := F) c s _).2
    isplitl [Hs0]; · iexact Hs0
    iexact Hs1
  isplitl [Hv0 Hv1]; · isplitl [Hv0] <;> iassumption
  iexact HO

/-! ## The products -/

abbrev outPts (c : Dev nD) (f : S512x2048.Idx → Elt F .f32) : sProp 𝕄 := iprop((c : Thread nD τ).loc cc0_stg3_0 ↦{fullShare} f)
theorem hz2 : (![0, 0] : Fin 2 → Nat) = fun _ => 0 := funext fun a => by fin_cases a <;> rfl
theorem hz1 : (![0] : Fin 1 → Nat) = fun _ => 0 := funext fun a => by fin_cases a; rfl
abbrev rO : Rect S512x2048 := Rect.unit (s := S512x2048) ![0, 0] S512x2048.size inb_S512x2048_S512x2048_0_0
theorem read_out (f : S512x2048.Idx → Elt F .f32) : outM.view.readAt (Elt F) rO.toLoadRect f = f :=
  Memref.readAt_unit_zero (Elt F) cc0_stg3_0 hz2 _ f
theorem write_out (f w : S512x2048.Idx → Elt F .f32) : (outM.access rO).write (Elt F) f w Finset.univ = w :=
  Memref.write_access_unit_zero_univ (Elt F) cc0_stg3_0 hz2 _ f w

/-- The first product: the device's own rows, from the staged factor itself. -/
theorem st_first (c : Dev nD) (s : Fin 3)
    {ox : Fin 2 → Nat} {hx} (hox : ox = ![512 * c.val, 0]) {ow : Fin 3 → Nat} {hw} (how : ow = ![s.val, 0, 0])
    (w : FVec F S512x2048 .f32)
    {pay : FVec F S512x512 .f32 → FVec F S1x512x2048 .f32 → FVec F S512x2048 .f32}
    (hpay : ∀ a w, pay a (wlead1 w) = mmul (truncf .bf16 a bitsLt_bf16_f32) w)
    {h1 h2 h3 h4 h5} {α : Type} {Q : α → sProp 𝕄} {k : PUnit → Prog (TpuEff nD τ sig (Elt F) Λ₀ .tc) α} :
    iprop(((c : Thread nD τ).loc cc0_stg0_0 ↦{fullShare} xstg m c) ∗ wslotPts c s (inWSlot w) ∗ (∃ f, outPts (F := F) c f))
      ⊢ iprop(((((c : Thread nD τ).loc cc0_stg0_0 ↦{fullShare} xstg m c) ∗ wslotPts c s (inWSlot w)
              ∗ outPts c (mmul (truncf .bf16 (xrows (xstg m c) c) bitsLt_bf16_f32) w)) -∗ wp frame (wpE (defs₀ (F := F)) 𝒱₀ (c : Thread nD τ) none) Set.univ (k ⟨⟩) Q)
          -∗ wp frame (wpE (defs₀ (F := F)) 𝒱₀ (c : Thread nD τ) none) Set.univ (.op (.load (s := S4096x512) (e := .f32) xM (Rect.unit (s := S4096x512) ox S512x512.size hx).toLoadRect h1) fun (a : FVec F S512x512 .f32) =>
            .op (.load (s := S3x512x2048) (e := .f32) wbM (Rect.unit (s := S3x512x2048) ow S1x512x2048.size hw).toLoadRect h2) fun (b : FVec F S1x512x2048 .f32) =>
            .op (.load (s := S512x2048) (e := .f32) outM rO.toLoadRect h3) fun _ =>
            .op (.store (s := S512x2048) (e := .f32) outM rO (pay a b) Finset.univ h4 h5) k) Q) := by
  iintro ⟨Hx, Hw, ⟨%f, Ho⟩⟩ Hk
  iapply (wp_load 𝒱₀ (c : Thread nD τ) none Set.univ (m := xM) (Finset.subset_univ _)) $$ Hx
  iintro Hx
  rw [load_x c hox]
  iapply (wp_load 𝒱₀ (c : Thread nD τ) none Set.univ (m := wbM) (load_w_set s how _)) $$ Hw
  iintro Hw
  rw [load_w s how, hpay]
  iapply (wp_load 𝒱₀ (c : Thread nD τ) none Set.univ (m := outM) (Finset.subset_univ _)) $$ Ho
  iintro Ho
  iapply (wp_store 𝒱₀ (c : Thread nD τ) none Set.univ (m := outM) (r := rO) (Mk := Finset.univ) (Finset.subset_univ _)) $$ Ho
  iintro Ho
  rw [write_out]
  iapply Hk
  isplitl [Hx]; · iexact Hx
  isplitl [Hw]; · iexact Hw
  iexact Ho

/-- A product with the block from `p`: its wait, the loads, and the sum stored. -/
theorem st_recv (c p : Dev nD) (hp : p ≠ c) (s : Fin 3) {rs : DmaSem sig} (hrs : rs = recvS p)
    {on : Fin 3 → Nat} {hn} {od : Fin 3 → Nat} {hd} {ol : Fin 3 → Nat} {hl} (hol : ol = ![p.val, 0, 0])
    {ow : Fin 3 → Nat} {hw} (how : ow = ![s.val, 0, 0]) (w o : FVec F S512x2048 .f32)
    {pay : FVec F S1x512x512 .fp8e4m3 → FVec F S1x512x2048 .f32 → FVec F S512x2048 .f32 → FVec F S512x2048 .f32 → FVec F S512x2048 .f32}
    (hpay : ∀ b w o, pay (lead1 b) (wlead1 w) o o = accStep o b w)
    {hsrc hdst h1 h2 h3 h3' h4 h5} {α : Type} {Q : α → sProp 𝕄} {k : PUnit → Prog (TpuEff nD τ sig (Elt F) Λ₀ .tc) α} :
    iprop(records m K ∗ owesX (F := F) c 0 ∗ cred (tallyAt (recvCell c p) () N) ∗ atPos ER (recvCell c p) 0 ∅ 0
        ∗ wslotPts c s (inWSlot w) ∗ outPts (F := F) c o)
      ⊢ iprop(((owesX (F := F) c 0 ∗ atPos ER (recvCell c p) 1 ∅ 0 ∗ rcvPts c p (inSlot (blk8 m p c)) ∗ wslotPts c s (inWSlot w)
              ∗ outPts c (accStep o (blk8 m p c) w)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs (slotM sndM on hn) (slotM rcvM od hd) hsrc hdst) fun _ =>
            .op (.load (s := S8x512x512) (e := .fp8e4m3) rcvM (Rect.unit (s := S8x512x512) ol S1x512x512.size hl).toLoadRect h1) fun (a : FVec F S1x512x512 .fp8e4m3) =>
            .op (.load (s := S3x512x2048) (e := .f32) wbM (Rect.unit (s := S3x512x2048) ow S1x512x2048.size hw).toLoadRect h2) fun (b : FVec F S1x512x2048 .f32) =>
            .op (.load (s := S512x2048) (e := .f32) outM rO.toLoadRect h3) fun (x : FVec F S512x2048 .f32) =>
            .op (.load (s := S512x2048) (e := .f32) outM rO.toLoadRect h3') fun (y : FVec F S512x2048 .f32) =>
            .op (.store (s := S512x2048) (e := .f32) outM rO (pay a b x y) Finset.univ h4 h5) k) Q) := by
  subst hrs
  unfold owesX
  iintro ⟨#HR, ⟨%W, HO⟩, Hc, Hat, Hw, Ho⟩ Hk
  iapply (Rounds.wp_wait_rest_token 𝒱₀ ER (ringRd m) (c : Thread nD τ) none (κ := K (c, kRecv p))
      (wpE_waitDma2_eq 𝒱₀ (c : Thread nD τ) none Set.univ) (Set.mem_univ _) () (O := 0) (W := W) (R := 0) (m := 0) (T := ∅)
      (by rw [Nat.zero_add, expect_recv m c p hp])) $$ [Hc HO Hat]
  · isplitr; · iapply (inv_at m K (c, kRecv p)); iexact HR
    isplitl [Hc]; · iexact Hc
    isplitl [HO]; · iexact HO
    isplitr; · rw [MayWait_zero]; iempintro
    iexact Hat
  iintro ⟨HO, Hat, -, Hpay⟩
  ihave Hr := (Entails.of_eq (rest_recv m c p hp)) $$ Hpay
  unfold recvPay
  iapply (wp_load 𝒱₀ (c : Thread nD τ) none Set.univ (m := rcvM) (load_rcv_set p hol _)) $$ Hr
  iintro Hr
  rw [load_rcv p hol]
  iapply (wp_load 𝒱₀ (c : Thread nD τ) none Set.univ (m := wbM) (load_w_set s how _)) $$ Hw
  iintro Hw
  rw [load_w s how]
  iapply (wp_load 𝒱₀ (c : Thread nD τ) none Set.univ (m := outM) (Finset.subset_univ _)) $$ Ho
  iintro Ho
  iapply (wp_load 𝒱₀ (c : Thread nD τ) none Set.univ (m := outM) (Finset.subset_univ _)) $$ Ho
  iintro Ho
  rw [read_out, hpay]
  iapply (wp_store 𝒱₀ (c : Thread nD τ) none Set.univ (m := outM) (r := rO) (Mk := Finset.univ) (Finset.subset_univ _)) $$ Ho
  iintro Ho
  rw [write_out]
  iapply Hk
  isplitl [HO]; · iexists _; iexact HO
  isplitl [Hat]; · iexact Hat
  isplitl [Hr]; · iexact Hr
  isplitl [Hw]; · iexact Hw
  iexact Ho

/-! ## The end -/

/-- A send wait: the slot of the send buffer back. -/
theorem st_swait (c : Dev nD) (i : Fin 7) {ss : DmaSem sig} (hss : ss = sendS i.castSucc)
    {on : Fin 3 → Nat} {hn} {od : Fin 3 → Nat} {hd} {hsrc hdst}
    {α : Type} {Q : α → sProp 𝕄} {k : PUnit → Prog (TpuEff nD τ sig (Elt F) Λ₀ .tc) α} :
    iprop(records m K ∗ owesX (F := F) c 0 ∗ cred (tallyAt (sendCell c i.castSucc) () N) ∗ atPos ER (sendCell c i.castSucc) 0 ∅ 0)
      ⊢ iprop(((owesX (F := F) c 0 ∗ atPos ER (sendCell c i.castSucc) 1 ∅ 0 ∗ (∃ f, sndPts (F := F) c i.castSucc f)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss (slotM rcvM on hn) (slotM sndM od hd) hsrc hdst) k) Q) := by
  subst hss
  unfold owesX
  iintro ⟨#HR, ⟨%W, HO⟩, Hc, Hat⟩ Hk
  iapply (Rounds.wp_wait_rest_token 𝒱₀ ER (ringRd m) (c : Thread nD τ) none (κ := K (c, kSend i.castSucc))
      (wpE_waitDma2_eq 𝒱₀ (c : Thread nD τ) none Set.univ) (Set.mem_univ _) () (O := 0) (W := W) (R := 0) (m := 0) (T := ∅)
      (by rw [Nat.zero_add, expect_send m c _ (Fin.castSucc_lt_last i).ne])) $$ [Hc HO Hat]
  · isplitr; · iapply (inv_at m K (c, kSend i.castSucc)); iexact HR
    isplitl [Hc]; · iexact Hc
    isplitl [HO]; · iexact HO
    isplitr; · rw [MayWait_zero]; iempintro
    iexact Hat
  iintro ⟨HO, Hat, -, Hpay⟩
  ihave Hr := (Entails.of_eq (rest_send m c _ (Fin.castSucc_lt_last i).ne)) $$ Hpay
  unfold sendPay
  iapply Hk
  isplitl [HO]; · iexists _; iexact HO
  isplitl [Hat]; · iexact Hat
  iexact Hr

abbrev rS : Rect S1 := Rect.unit (s := S1) ![0] S1.size inb_S1_S1_0
theorem one_idx (f : S1.Idx → Elt F .f32) : f = fun _ => f (ix1 0) := funext fun i => congrArg f (by
  funext a; fin_cases a; exact Fin.ext (by have : (i 0).val < 1 := (i 0).isLt; show (i 0).val = 0; omega))
theorem read_sx (f : S1.Idx → Elt F .f32) : sxM.view.readAt (Elt F) rS.toLoadRect f = fun _ => f (ix1 0) :=
  (Memref.readAt_unit_zero (Elt F) cc0_stg1_0 hz1 _ f).trans (one_idx f)
theorem read_sw (f : S1.Idx → Elt F .f32) : swM.view.readAt (Elt F) rS.toLoadRect f = fun _ => f (ix1 0) :=
  (Memref.readAt_unit_zero (Elt F) cc0_stg2_0 hz1 _ f).trans (one_idx f)

/-- The scales, and the result stored. -/
theorem st_final (c : Dev nD) (a : FVec F S512x2048 .f32) (x y : S1.Idx → Elt F .f32)
    {pay : FVec F S1 .f32 → FVec F S1 .f32 → FVec F S512x2048 .f32 → FVec F S512x2048 .f32 → FVec F S512x2048 .f32}
    (hpay : ∀ s t a, pay (fun _ => s) (fun _ => t) a a = finish a s t)
    {h1 h2 h3 h3' h4 h5} {α : Type} {Q : α → sProp 𝕄} {k : PUnit → Prog (TpuEff nD τ sig (Elt F) Λ₀ .tc) α} :
    iprop(((c : Thread nD τ).loc cc0_stg1_0 ↦{fullShare} x) ∗ ((c : Thread nD τ).loc cc0_stg2_0 ↦{fullShare} y) ∗ outPts (F := F) c a)
      ⊢ iprop(((((c : Thread nD τ).loc cc0_stg1_0 ↦{fullShare} x) ∗ ((c : Thread nD τ).loc cc0_stg2_0 ↦{fullShare} y)
              ∗ outPts c (finish a (x (ix1 0)) (y (ix1 0)))) -∗ wp frame (wpE (defs₀ (F := F)) 𝒱₀ (c : Thread nD τ) none) Set.univ (k ⟨⟩) Q)
          -∗ wp frame (wpE (defs₀ (F := F)) 𝒱₀ (c : Thread nD τ) none) Set.univ (.op (.load (s := S1) (e := .f32) sxM rS.toLoadRect h1) fun (u : FVec F S1 .f32) =>
            .op (.load (s := S1) (e := .f32) swM rS.toLoadRect h2) fun (v : FVec F S1 .f32) =>
            .op (.load (s := S512x2048) (e := .f32) outM rO.toLoadRect h3) fun (p : FVec F S512x2048 .f32) =>
            .op (.load (s := S512x2048) (e := .f32) outM rO.toLoadRect h3') fun (q : FVec F S512x2048 .f32) =>
            .op (.store (s := S512x2048) (e := .f32) outM rO (pay u v p q) Finset.univ h4 h5) k) Q) := by
  iintro ⟨Hx, Hy, Ho⟩ Hk
  iapply (wp_load 𝒱₀ (c : Thread nD τ) none Set.univ (m := sxM) (Finset.subset_univ _)) $$ Hx
  iintro Hx
  iapply (wp_load 𝒱₀ (c : Thread nD τ) none Set.univ (m := swM) (Finset.subset_univ _)) $$ Hy
  iintro Hy
  iapply (wp_load 𝒱₀ (c : Thread nD τ) none Set.univ (m := outM) (Finset.subset_univ _)) $$ Ho
  iintro Ho
  iapply (wp_load 𝒱₀ (c : Thread nD τ) none Set.univ (m := outM) (Finset.subset_univ _)) $$ Ho
  iintro Ho
  rw [read_sx, read_sw, read_out]
  have hp := hpay (x (ix1 0)) (y (ix1 0)) a
  erw [hp]
  iapply (wp_store 𝒱₀ (c : Thread nD τ) none Set.univ (m := outM) (r := rO) (Mk := Finset.univ) (Finset.subset_univ _)) $$ Ho
  iintro Ho
  rw [write_out]
  iapply Hk
  isplitl [Hx]; · iexact Hx
  isplitl [Hy]; · iexact Hy
  iexact Ho

/-! ## Closing the cells -/

theorem close_cell (ck : Dev nD × CK) (R : ℕ) (h : ∀ r, R ≤ r → (ringRd (F := F) m).duties (kcell ck) r = ∅) :
    iprop(records m K ∗ atPos ER (kcell ck) R ∅ 0) ⊢ |={Set.univ}=> (semVal (kcell ck) 0 : sProp 𝕄) := by
  iintro ⟨#HR, Hat⟩
  iapply (Rounds.cell_close ER (ringRd m) (Set.mem_univ (K ck)) (fun h => h) (R := R) h)
  isplitr; · iapply (inv_at m K ck); iexact HR
  iexact Hat

end Cert.Ring

end
-- ==== Proof.Offsets.lean ====
/-
  The offsets, devices and stored values of the body in closed form: each computed offset is a row block, a slot or a
  semaphore number, and each stored value is one of the few of `Stages`.
-/
module

public import proofs.«01_k».proof.Proof.Stages
public import proofs.«01_k».proof.Proof.Gen.KernelIdeal.Skeleton

@[expose] public section

noncomputable section

namespace Cert.Ring

open Cert.KernelIdeal Cert.KernelIdeal.Gen
open Idealize.ShloMosaic Idealize.ShloMosaic.TcCoe
open Idealize.ShloMosaic.ValueIdx

variable {F : FTy → Type} [FloatOps F]

theorem dv1 : ∀ c : Dev nD, (⟨k0_dev1 c, k0_dev1_lt c⟩ : Dev nD) = sg c 0 := by decide +kernel
theorem dv2 : ∀ c : Dev nD, (⟨k0_dev2 c, k0_dev2_lt c⟩ : Dev nD) = sg c 1 := by decide +kernel
theorem dv3 : ∀ c : Dev nD, (⟨k0_dev3 c, k0_dev3_lt c⟩ : Dev nD) = sg c 2 := by decide +kernel
theorem dv4 : ∀ c : Dev nD, (⟨k0_dev4 c, k0_dev4_lt c⟩ : Dev nD) = sg c 3 := by decide +kernel
theorem dv5 : ∀ c : Dev nD, (⟨k0_dev5 c, k0_dev5_lt c⟩ : Dev nD) = sg c 4 := by decide +kernel
theorem dv6 : ∀ c : Dev nD, (⟨k0_dev6 c, k0_dev6_lt c⟩ : Dev nD) = sg c 5 := by decide +kernel
theorem dv7 : ∀ c : Dev nD, (⟨k0_dev7 c, k0_dev7_lt c⟩ : Dev nD) = sg c 6 := by decide +kernel
theorem dv8 : ∀ c : Dev nD, (⟨k0_dev8 c, k0_dev8_lt c⟩ : Dev nD) = tgt c 0 := by decide +kernel
theorem dv9 : ∀ c : Dev nD, (⟨k0_dev9 c, k0_dev9_lt c⟩ : Dev nD) = tgt c 1 := by decide +kernel
theorem dv10 : ∀ c : Dev nD, (⟨k0_dev10 c, k0_dev10_lt c⟩ : Dev nD) = tgt c 2 := by decide +kernel
theorem dv11 : ∀ c : Dev nD, (⟨k0_dev11 c, k0_dev11_lt c⟩ : Dev nD) = tgt c 3 := by decide +kernel
theorem dv12 : ∀ c : Dev nD, (⟨k0_dev12 c, k0_dev12_lt c⟩ : Dev nD) = tgt c 4 := by decide +kernel
theorem dv13 : ∀ c : Dev nD, (⟨k0_dev13 c, k0_dev13_lt c⟩ : Dev nD) = tgt c 5 := by decide +kernel
theorem dv14 : ∀ c : Dev nD, (⟨k0_dev14 c, k0_dev14_lt c⟩ : Dev nD) = tgt c 6 := by decide +kernel

/-! Rows of the left factor that a transfer takes. -/
theorem of1_0 : ∀ c : Dev nD, k0_off1 c 0#32 = ![512 * (tgt c 0).val, 0] := by decide +kernel
theorem of1_1 : ∀ c : Dev nD, k0_off1 c 1#32 = ![512 * (tgt c 1).val, 0] := by decide +kernel
theorem of1_3 : ∀ c : Dev nD, k0_off1 c 3#32 = ![512 * (tgt c 2).val, 0] := by decide +kernel
theorem of1_2 : ∀ c : Dev nD, k0_off1 c 2#32 = ![512 * (tgt c 3).val, 0] := by decide +kernel
theorem of4_1 : ∀ c : Dev nD, k0_off4 c 1#32 = ![512 * (tgt c 4).val, 0] := by decide +kernel
theorem of4_3 : ∀ c : Dev nD, k0_off4 c 3#32 = ![512 * (tgt c 5).val, 0] := by decide +kernel
theorem of4_2 : ∀ c : Dev nD, k0_off4 c 2#32 = ![512 * (tgt c 6).val, 0] := by decide +kernel
theorem of2 : ∀ c : Dev nD, k0_off2 c = ![c.val] := by decide +kernel
theorem of3 : ∀ c : Dev nD, k0_off3 c = ![c.val, 0, 0] := by decide +kernel
theorem of9 : ∀ c : Dev nD, k0_off9 c = ![512 * c.val, 0] := by decide +kernel

/-! The halves of the weight blocks. -/
theorem of5 : ∀ c : Dev nD, k0_off5 c = ![512 * (ord c 0).val, 0] := by decide +kernel
theorem of6 : ∀ c : Dev nD, k0_off6 c = ![512 * (ord c 0).val, 1024] := by decide +kernel
theorem of7_1 : ∀ c : Dev nD, k0_off7 c 1#32 = ![512 * (ord c 1).val, 0] := by decide +kernel
theorem of8_1 : ∀ c : Dev nD, k0_off8 c 1#32 = ![512 * (ord c 1).val, 1024] := by decide +kernel
theorem of7_3 : ∀ c : Dev nD, k0_off7 c 3#32 = ![512 * (ord c 2).val, 0] := by decide +kernel
theorem of8_3 : ∀ c : Dev nD, k0_off8 c 3#32 = ![512 * (ord c 2).val, 1024] := by decide +kernel
theorem of7_2 : ∀ c : Dev nD, k0_off7 c 2#32 = ![512 * (ord c 3).val, 0] := by decide +kernel
theorem of8_2 : ∀ c : Dev nD, k0_off8 c 2#32 = ![512 * (ord c 3).val, 1024] := by decide +kernel
theorem of13_0 : ∀ c : Dev nD, k0_off13 c 0#32 = ![512 * (ord c 4).val, 0] := by decide +kernel
theorem of14_0 : ∀ c : Dev nD, k0_off14 c 0#32 = ![512 * (ord c 4).val, 1024] := by decide +kernel
theorem of13_1 : ∀ c : Dev nD, k0_off13 c 1#32 = ![512 * (ord c 5).val, 0] := by decide +kernel
theorem of14_1 : ∀ c : Dev nD, k0_off14 c 1#32 = ![512 * (ord c 5).val, 1024] := by decide +kernel
theorem of13_3 : ∀ c : Dev nD, k0_off13 c 3#32 = ![512 * (ord c 6).val, 0] := by decide +kernel
theorem of14_3 : ∀ c : Dev nD, k0_off14 c 3#32 = ![512 * (ord c 6).val, 1024] := by decide +kernel
theorem of13_2 : ∀ c : Dev nD, k0_off13 c 2#32 = ![512 * (ord c 7).val, 0] := by decide +kernel
theorem of14_2 : ∀ c : Dev nD, k0_off14 c 2#32 = ![512 * (ord c 7).val, 1024] := by decide +kernel

/-! The receive semaphores and slots. -/
theorem of10_1 : ∀ c : Dev nD, k0_off10 c 1#32 = ![(src c 0).val] := by decide +kernel
theorem of12_1 : ∀ c : Dev nD, k0_off12 c 1#32 = ![(src c 0).val, 0, 0] := by decide +kernel
theorem of10_3 : ∀ c : Dev nD, k0_off10 c 3#32 = ![(src c 1).val] := by decide +kernel
theorem of12_3 : ∀ c : Dev nD, k0_off12 c 3#32 = ![(src c 1).val, 0, 0] := by decide +kernel
theorem of10_2 : ∀ c : Dev nD, k0_off10 c 2#32 = ![(src c 2).val] := by decide +kernel
theorem of12_2 : ∀ c : Dev nD, k0_off12 c 2#32 = ![(src c 2).val, 0, 0] := by decide +kernel
theorem of15_0 : ∀ c : Dev nD, k0_off15 c 0#32 = ![(src c 3).val] := by decide +kernel
theorem of17_0 : ∀ c : Dev nD, k0_off17 c 0#32 = ![(src c 3).val, 0, 0] := by decide +kernel
theorem of15_1 : ∀ c : Dev nD, k0_off15 c 1#32 = ![(src c 4).val] := by decide +kernel
theorem of17_1 : ∀ c : Dev nD, k0_off17 c 1#32 = ![(src c 4).val, 0, 0] := by decide +kernel
theorem of15_3 : ∀ c : Dev nD, k0_off15 c 3#32 = ![(src c 5).val] := by decide +kernel
theorem of17_3 : ∀ c : Dev nD, k0_off17 c 3#32 = ![(src c 5).val, 0, 0] := by decide +kernel
theorem of15_2 : ∀ c : Dev nD, k0_off15 c 2#32 = ![(src c 6).val] := by decide +kernel
theorem of17_2 : ∀ c : Dev nD, k0_off17 c 2#32 = ![(src c 6).val, 0, 0] := by decide +kernel

/-! The stored values. -/
theorem add_lead (v : FVec F S512x512 .fp8e4m3) : shapeCast S1x512x512 v shapeCasts_S512x512_S1x512x512 = lead1 v :=
  funext fun j => (shapeCast_addUnit_apply ![512, 512] v _ j).trans (congrArg v (funext fun a => by fin_cases a <;> rfl))
theorem drop_lead (v : FVec F S512x512 .fp8e4m3) : shapeCast S512x512 (lead1 v) shapeCasts_S1x512x512_S512x512 = v :=
  funext fun j => (shapeCast_dropUnit_apply ![512, 512] (lead1 v) _ j).trans (congrArg v (funext fun a => by fin_cases a <;> rfl))
theorem drop_wlead (v : FVec F S512x2048 .f32) : shapeCast S512x2048 (wlead1 v) shapeCasts_S1x512x2048_S512x2048 = v :=
  funext fun j => (shapeCast_dropUnit_apply ![512, 2048] (wlead1 v) _ j).trans (congrArg v (funext fun a => by fin_cases a <;> rfl))

theorem pay_send (v : FVec F S512x512 .f32) : k0_pay2 v = lead1 (truncf .fp8e4m3 v bitsLt_fp8e4m3_f32) := by
  unfold k0_pay2; rw [shapeCast_self]; exact add_lead _
theorem pay_first (a : FVec F S512x512 .f32) (w : FVec F S512x2048 .f32) : k0_pay9 a (wlead1 w) = mmul (truncf .bf16 a bitsLt_bf16_f32) w := by
  unfold k0_pay9 mmul; rw [shapeCast_self, drop_wlead]
theorem pay_recv (b : FVec F S512x512 .fp8e4m3) (w o : FVec F S512x2048 .f32) : k0_pay10 (lead1 b) (wlead1 w) o = accStep o b w := by
  unfold k0_pay10 accStep mmul; rw [shapeCast_self, drop_lead, drop_wlead]
theorem pay_recv6 (b : FVec F S512x512 .fp8e4m3) (w o : FVec F S512x2048 .f32) : k0_pay16 (k0_pay15 (lead1 b) (wlead1 w)) o = accStep o b w := by
  unfold k0_pay16 k0_pay15 accStep mmul; rw [shapeCast_self, drop_lead, drop_wlead]
theorem pay_recv7 (b : FVec F S512x512 .fp8e4m3) (w o : FVec F S512x2048 .f32) :
    k0_pay19 (k0_pay17 (lead1 b)) (k0_pay18 (wlead1 w)) (constant S512x2048 .f32 0x00000000#32) o = accStep o b w := by
  unfold k0_pay19 k0_pay17 k0_pay18 accStep mmul; rw [shapeCast_self, drop_lead, drop_wlead]
theorem pay_final (s t : F .f32) (a : FVec F S512x2048 .f32) : k0_pay1 (k0_pay20 s t a) (Scalar.ofBits .f32 0x00000000#32) = finish a s t := by
  unfold k0_pay1 k0_pay20 finish; rw [shapeCast_self]

end Cert.Ring

end
-- ==== Proof.Body.lean ====
/-
  The whole body on one device: from its share of the buffers, semaphores and tokens to the result in the output
  buffer. One step lemma of `Stages` for each step of the program, in program order.
-/
module

public import proofs.«01_k».proof.Proof.Offsets
public import proofs.«01_k».proof.Proof.Gen.KernelIdeal.Launch
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem bigSep3 (Φ : Fin 3 → sProp 𝕄) : bigSep Finset.univ Φ = iprop(Φ 0 ∗ Φ 1 ∗ Φ 2) := by
  rw [bigSep_univ_eq_bigSepL [0, 1, 2] (by decide) (by decide)]; simp only [bigSepL_cons_cons, bigSepL_singleton]; rfl
theorem bigSep7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; simp only [bigSepL_cons_cons, bigSepL_singleton]; rfl
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; simp only [bigSepL_cons_cons, bigSepL_singleton]; rfl

/-- What a signal takes: its token, and the slot it hands over. -/
def sgIn (c : Dev nD) (d : Fin 7) : sProp 𝕄 := iprop(dutyTok ER (barCell (sg c d)) 0 c ∗ ∃ f, rcvPts (F := F) c (sg c d) f)
/-- What a transfer takes besides the target's slot. -/
def tfIn (c : Dev nD) (i : Fin 7) : sProp 𝕄 :=
  iprop((∃ f, sndPts (F := F) c i.castSucc f) ∗ dutyTok ER (sendCell c i.castSucc) 0 0 ∗ dutyTok ER (recvCell (tgt c i) c) 0 0)
/-- One row block of the weights. -/
def wIn (c : Dev nD) (k : Fin 8) : sProp 𝕄 := iprop(partPts m c (ord c k, 0) ∗ partPts m c (ord c k, 1))
/-- One weight slot and its two semaphores. -/
def wbIn (c : Dev nD) (s : Fin 3) : sProp 𝕄 :=
  iprop((∃ f, wslotPts (F := F) c s f) ∗ semVal ((c : Thread nD τ), .dma (wS s 0)) 0 ∗ semVal ((c : Thread nD τ), .dma (wS s 1)) 0)
/-- What a receive wait takes and gives. -/
def rvIn (c : Dev nD) (j : Fin 7) : sProp 𝕄 := iprop(cred (tallyAt (recvCell c (src c j)) () N) ∗ atPos ER (recvCell c (src c j)) 0 ∅ 0)
def rvOut (c : Dev nD) (j : Fin 7) : sProp 𝕄 := iprop(atPos ER (recvCell c (src c j)) 1 ∅ 0 ∗ ∃ f, rcvPts (F := F) c (src c j) f)
def sdOut (c : Dev nD) (i : Fin 7) : sProp 𝕄 := iprop(atPos ER (sendCell c i.castSucc) 1 ∅ 0 ∗ ∃ f, sndPts (F := F) c i.castSucc f)

/-- What the body never changes. -/
def bufs (c : Dev nD) : sProp 𝕄 :=
  iprop(((c : Thread nD τ).loc cc0_stg0_0 ↦{fullShare} xstg m c) ∗ ((c : Thread nD τ).loc cc0_stg1_0 ↦{fullShare} sxstg m c)
    ∗ ((c : Thread nD τ).loc cc0_stg2_0 ↦{fullShare} swstg m c))

def coreIn (c : Dev nD) : sProp 𝕄 :=
  iprop(owesX (F := F) c (O₀ c) ∗ bufs m c ∗ (∃ f, outPts (F := F) c f)
    ∗ cred (tallyAt (barCell c) () 7) ∗ atPos ER (barCell c) 0 ∅ 0
    ∗ (bigSep Finset.univ fun d => sgIn (F := F) c d) ∗ (bigSep Finset.univ fun i => tfIn (F := F) c i)
    ∗ (bigSep Finset.univ fun i : Fin 7 => atPos ER (sendCell c i.castSucc) 0 ∅ 0) ∗ (bigSep Finset.univ fun j => rvIn (F := F) c j)
    ∗ (bigSep Finset.univ fun k => wIn m c k) ∗ (bigSep Finset.univ fun s => wbIn (F := F) c s))
def coreOut (c : Dev nD) : sProp 𝕄 :=
  iprop(owesX (F := F) c 0 ∗ bufs m c ∗ outPts c (outAt m c) ∗ atPos ER (barCell c) 1 ∅ 0
    ∗ (bigSep Finset.univ fun i => sdOut (F := F) c i) ∗ (bigSep Finset.univ fun j => rvOut (F := F) c j)
    ∗ (bigSep Finset.univ fun k => wIn m c k) ∗ (bigSep Finset.univ fun s => wbIn (F := F) c s))

set_option maxRecDepth 8000 in
set_option maxHeartbeats 4000000 in
theorem sound_body (c : Dev nD) (Kt : PUnit → sProp 𝕄) :
    iprop(records m K ∗ levAts L lv ∗ coreIn m c ∗ (coreOut m c -∗ Kt ⟨⟩))
      ⊢ wp frame (wpE (defs₀ (F := F)) 𝒱₀ c none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, smemLoad, smemLoadElt, Prog.lift, Prog.bind_op, Prog.bind_ret, Prog.pure_eq_ret, wp_deviceId]
  unfold coreIn coreOut sgIn tfIn rvIn wIn wbIn bufs sdOut rvOut
  simp only [bigSep3, bigSep7, bigSep8]
  iintro ⟨#HR, #Hlev, ⟨HO, ⟨Hx, Hsx, Hsw⟩, Hout, HcB, HaB, ⟨⟨HsT0, HsP0⟩, ⟨HsT1, HsP1⟩, ⟨HsT2, HsP2⟩, ⟨HsT3, HsP3⟩, ⟨HsT4, HsP4⟩, ⟨HsT5, HsP5⟩, ⟨HsT6, HsP6⟩⟩, ⟨⟨Hsn0, Hst0, Hrt0⟩, ⟨Hsn1, Hst1, Hrt1⟩, ⟨Hsn2, Hst2, Hrt2⟩, ⟨Hsn3, Hst3, Hrt3⟩, ⟨Hsn4, Hst4, Hrt4⟩, ⟨Hsn5, Hst5, Hrt5⟩, ⟨Hsn6, Hst6, Hrt6⟩⟩, ⟨Has0, Has1, Has2, Has3, Has4, Has5, Has6⟩, ⟨⟨Hcr0, Har0⟩, ⟨Hcr1, Har1⟩, ⟨Hcr2, Har2⟩, ⟨Hcr3, Har3⟩, ⟨Hcr4, Har4⟩, ⟨Hcr5, Har5⟩, ⟨Hcr6, Har6⟩⟩, ⟨Hw0, Hw1, Hw2, Hw3, Hw4, Hw5, Hw6, Hw7⟩, ⟨⟨Hb0, Hv0⟩, ⟨Hb1, Hv1⟩, ⟨Hb2, Hv2⟩⟩⟩, Hk⟩
  iapply (st_signal m K c _ 0 (dv1 c) (owesB c 6)) $$ [HO HsT0 HsP0]
  · isplitr; · iexact HR
    isplitl [HO]; · iexact HO
    isplitl [HsT0]; · iexact HsT0
    iexact HsP0
  iintro HO
  iapply (st_signal m K c _ 1 (dv2 c) (owesB c 5)) $$ [HO HsT1 HsP1]
  · isplitr; · iexact HR
    isplitl [HO]; · iexact HO
    isplitl [HsT1]; · iexact HsT1
    iexact HsP1
  iintro HO
  iapply (st_signal m K c _ 2 (dv3 c) (owesB c 4)) $$ [HO HsT2 HsP2]
  · isplitr; · iexact HR
    isplitl [HO]; · iexact HO
    isplitl [HsT2]; · iexact HsT2
    iexact HsP2
  iintro HO
  iapply (st_signal m K c _ 3 (dv4 c) (owesB c 3)) $$ [HO HsT3 HsP3]
  · isplitr; · iexact HR
    isplitl [HO]; · iexact HO
    isplitl [HsT3]; · iexact HsT3
    iexact HsP3
  iintro HO
  iapply (st_signal m K c _ 4 (dv5 c) (owesB c 2)) $$ [HO HsT4 HsP4]
  · isplitr; · iexact HR
    isplitl [HO]; · iexact HO
    isplitl [HsT4]; · iexact HsT4
    iexact HsP4
  iintro HO
  iapply (st_signal m K c _ 5 (dv6 c) (owesB c 1)) $$ [HO HsT5 HsP5]
  · isplitr; · iexact HR
    isplitl [HO]; · iexact HO
    isplitl [HsT5]; · iexact HsT5
    iexact HsP5
  iintro HO
  iapply (st_signal m K c _ 6 (dv7 c) (owesB c 0)) $$ [HO HsT6 HsP6]
  · isplitr; · iexact HR
    isplitl [HO]; · iexact HO
    isplitl [HsT6]; · iexact HsT6
    iexact HsP6
  iintro HO
  iapply (st_barrier m K c) $$ [HO HcB HaB]
  · isplitr; · iexact HR
    isplitr; · iexact Hlev
    isplitl [HO]; · iexact HO
    isplitl [HcB]; · iexact HcB
    iexact HaB
  iintro ⟨HO, HaB, Hts⟩
  ihave Hts := (Entails.of_eq (bigSep7 (F := F) _)) $$ Hts
  icases Hts with ⟨Htg0, Htg1, Htg2, Htg3, Htg4, Htg5, Htg6⟩
  iapply (st_send m K c _ 0 (dv8 c) (owesT c 6) (of1_0 c) rfl rfl (of3 c) (sendS_eq 0 rfl _) (recvS_eq c (of2 c) _) pay_send) $$ [HO Hx Hsn0 Htg0 Hst0 Hrt0]
  · isplitr; · iexact HR
    isplitl [HO]; · iexact HO
    isplitl [Hx]; · iexact Hx
    isplitl [Hsn0]; · iexact Hsn0
    isplitl [Htg0]; · iexact Htg0
    isplitl [Hst0]; · iexact Hst0
    iexact Hrt0
  iintro ⟨HO, Hx, Hcs0⟩
  iapply (st_send m K c _ 1 (dv9 c) (owesT c 5) (of1_1 c) rfl rfl (of3 c) (sendS_eq 1 rfl _) (recvS_eq c (of2 c) _) pay_send) $$ [HO Hx Hsn1 Htg1 Hst1 Hrt1]
  · isplitr; · iexact HR
    isplitl [HO]; · iexact HO
    isplitl [Hx]; · iexact Hx
    isplitl [Hsn1]; · iexact Hsn1
    isplitl [Htg1]; · iexact Htg1
    isplitl [Hst1]; · iexact Hst1
    iexact Hrt1
  iintro ⟨HO, Hx, Hcs1⟩
  iapply (st_send m K c _ 2 (dv10 c) (owesT c 4) (of1_3 c) rfl rfl (of3 c) (sendS_eq 2 rfl _) (recvS_eq c (of2 c) _) pay_send) $$ [HO Hx Hsn2 Htg2 Hst2 Hrt2]
  · isplitr; · iexact HR
    isplitl [HO]; · iexact HO
    isplitl [Hx]; · iexact Hx
    isplitl [Hsn2]; · iexact Hsn2
    isplitl [Htg2]; · iexact Htg2
    isplitl [Hst2]; · iexact Hst2
    iexact Hrt2
  iintro ⟨HO, Hx, Hcs2⟩
  iapply (st_send m K c _ 3 (dv11 c) (owesT c 3) (of1_2 c) rfl rfl (of3 c) (sendS_eq 3 rfl _) (recvS_eq c (of2 c) _) pay_send) $$ [HO Hx Hsn3 Htg3 Hst3 Hrt3]
  · isplitr; · iexact HR
    isplitl [HO]; · iexact HO
    isplitl [Hx]; · iexact Hx
    isplitl [Hsn3]; · iexact Hsn3
    isplitl [Htg3]; · iexact Htg3
    isplitl [Hst3]; · iexact Hst3
    iexact Hrt3
  iintro ⟨HO, Hx, Hcs3⟩
  iapply (st_send m K c _ 4 (dv12 c) (owesT c 2) (of4_1 c) rfl rfl (of3 c) (sendS_eq 4 rfl _) (recvS_eq c (of2 c) _) pay_send) $$ [HO Hx Hsn4 Htg4 Hst4 Hrt4]
  · isplitr; · iexact HR
    isplitl [HO]; · iexact HO
    isplitl [Hx]; · iexact Hx
    isplitl [Hsn4]; · iexact Hsn4
    isplitl [Htg4]; · iexact Htg4
    isplitl [Hst4]; · iexact Hst4
    iexact Hrt4
  iintro ⟨HO, Hx, Hcs4⟩
  iapply (st_send m K c _ 5 (dv13 c) (owesT c 1) (of4_3 c) rfl rfl (of3 c) (sendS_eq 5 rfl _) (recvS_eq c (of2 c) _) pay_send) $$ [HO Hx Hsn5 Htg5 Hst5 Hrt5]
  · isplitr; · iexact HR
    isplitl [HO]; · iexact HO
    isplitl [Hx]; · iexact Hx
    isplitl [Hsn5]; · iexact Hsn5
    isplitl [Htg5]; · iexact Htg5
    isplitl [Hst5]; · iexact Hst5
    iexact Hrt5
  iintro ⟨HO, Hx, Hcs5⟩
  iapply (st_send m K c _ 6 (dv14 c) (owesT c 0) (of4_2 c) rfl rfl (of3 c) (sendS_eq 6 rfl _) (recvS_eq c (of2 c) _) pay_send) $$ [HO Hx Hsn6 Htg6 Hst6 Hrt6]
  · isplitr; · iexact HR
    isplitl [HO]; · iexact HO
    isplitl [Hx]; · iexact Hx
    isplitl [Hsn6]; · iexact Hsn6
    isplitl [Htg6]; · iexact Htg6
    isplitl [Hst6]; · iexact Hst6
    iexact Hrt6
  iintro ⟨HO, Hx, Hcs6⟩
  iapply (st_wstart m c (ord c 0) 0 (of5 c) (of6 c) rfl rfl (wS_eq 0 0 rfl _) (wS_eq 0 1 rfl _)) $$ [Hw0 Hb0 Hv0]
  · isplitl [Hw0]; · iexact Hw0
    isplitl [Hb0]; · iexact Hb0
    iexact Hv0
  iintro HF0
  iapply (st_wstart m c (ord c 1) 1 (of7_1 c) (of8_1 c) rfl rfl (wS_eq 1 0 rfl _) (wS_eq 1 1 rfl _)) $$ [Hw1 Hb1 Hv1]
  · isplitl [Hw1]; · iexact Hw1
    isplitl [Hb1]; · iexact Hb1
    iexact Hv1
  iintro HF1
  iapply (st_wstart m c (ord c 2) 2 (of7_3 c) (of8_3 c) rfl rfl (wS_eq 2 0 rfl _) (wS_eq 2 1 rfl _)) $$ [Hw2 Hb2 Hv2]
  · isplitl [Hw2]; · iexact Hw2
    isplitl [Hb2]; · iexact Hb2
    iexact Hv2
  iintro HF2
  iapply (st_wwait m c (ord c 0) 0 (wS_eq 0 0 rfl _) (wS_eq 0 1 rfl _)) $$ [HF0 HO]
  · isplitl [HF0]; · iexact HF0
    iexact HO
  iintro ⟨Hw0, Hb0, Hv0, HO⟩
  iapply (st_first m c 0 (of9 c) rfl _ pay_first) $$ [Hx Hb0 Hout]
  · isplitl [Hx]; · iexact Hx
    isplitl [Hb0]; · iexact Hb0
    iexact Hout
  iintro ⟨Hx, Hb0, Hout⟩
  ihave Hb0 := (show wslotPts c 0 (inWSlot (wrows (wmem m c) (ord c 0))) ⊢ iprop(∃ f, wslotPts (F := F) c 0 f) from by iintro H; iexists _; iexact H) $$ Hb0
  iapply (st_wstart m c (ord c 3) 0 (of7_2 c) (of8_2 c) rfl rfl (wS_eq 0 0 rfl _) (wS_eq 0 1 rfl _)) $$ [Hw3 Hb0 Hv0]
  · isplitl [Hw3]; · iexact Hw3
    isplitl [Hb0]; · iexact Hb0
    iexact Hv0
  iintro HF0
  iapply (st_wwait m c (ord c 1) 1 (wS_eq 1 0 rfl _) (wS_eq 1 1 rfl _)) $$ [HF1 HO]
  · isplitl [HF1]; · iexact HF1
    iexact HO
  iintro ⟨Hw1, Hb1, Hv1, HO⟩
  iapply (st_recv m K c (src c 0) (src_ne c 0) 1 (recvS_eq (src c 0) (of10_1 c) _) (of12_1 c) rfl _ _ (pay := fun a b x _ => k0_pay10 a b x) (fun b w o => pay_recv b w o)) $$ [HO Hcr0 Har0 Hb1 Hout]
  · isplitr; · iexact HR
    isplitl [HO]; · iexact HO
    isplitl [Hcr0]; · iexact Hcr0
    isplitl [Har0]; · iexact Har0
    isplitl [Hb1]; · iexact Hb1
    iexact Hout
  iintro ⟨HO, Har0, Hrv0, Hb1, Hout⟩
  ihave Hb1 := (show wslotPts c 1 (inWSlot (wrows (wmem m c) (ord c 1))) ⊢ iprop(∃ f, wslotPts (F := F) c 1 f) from by iintro H; iexists _; iexact H) $$ Hb1
  iapply (st_wstart m c (ord c 4) 1 (of13_0 c) (of14_0 c) rfl rfl (wS_eq 1 0 rfl _) (wS_eq 1 1 rfl _)) $$ [Hw4 Hb1 Hv1]
  · isplitl [Hw4]; · iexact Hw4
    isplitl [Hb1]; · iexact Hb1
    iexact Hv1
  iintro HF1
  iapply (st_wwait m c (ord c 2) 2 (wS_eq 2 0 rfl _) (wS_eq 2 1 rfl _)) $$ [HF2 HO]
  · isplitl [HF2]; · iexact HF2
    iexact HO
  iintro ⟨Hw2, Hb2, Hv2, HO⟩
  iapply (st_recv m K c (src c 1) (src_ne c 1) 2 (recvS_eq (src c 1) (of10_3 c) _) (of12_3 c) rfl _ _ (pay := fun a b x _ => k0_pay11 a b x) (fun b w o => pay_recv b w o)) $$ [HO Hcr1 Har1 Hb2 Hout]
  · isplitr; · iexact HR
    isplitl [HO]; · iexact HO
    isplitl [Hcr1]; · iexact Hcr1
    isplitl [Har1]; · iexact Har1
    isplitl [Hb2]; · iexact Hb2
    iexact Hout
  iintro ⟨HO, Har1, Hrv1, Hb2, Hout⟩
  ihave Hb2 := (show wslotPts c 2 (inWSlot (wrows (wmem m c) (ord c 2))) ⊢ iprop(∃ f, wslotPts (F := F) c 2 f) from by iintro H; iexists _; iexact H) $$ Hb2
  iapply (st_wstart m c (ord c 5) 2 (of13_1 c) (of14_1 c) rfl rfl (wS_eq 2 0 rfl _) (wS_eq 2 1 rfl _)) $$ [Hw5 Hb2 Hv2]
  · isplitl [Hw5]; · iexact Hw5
    isplitl [Hb2]; · iexact Hb2
    iexact Hv2
  iintro HF2
  iapply (st_wwait m c (ord c 3) 0 (wS_eq 0 0 rfl _) (wS_eq 0 1 rfl _)) $$ [HF0 HO]
  · isplitl [HF0]; · iexact HF0
    iexact HO
  iintro ⟨Hw3, Hb0, Hv0, HO⟩
  iapply (st_recv m K c (src c 2) (src_ne c 2) 0 (recvS_eq (src c 2) (of10_2 c) _) (of12_2 c) rfl _ _ (pay := fun a b x _ => k0_pay12 a b x) (fun b w o => pay_recv b w o)) $$ [HO Hcr2 Har2 Hb0 Hout]
  · isplitr; · iexact HR
    isplitl [HO]; · iexact HO
    isplitl [Hcr2]; · iexact Hcr2
    isplitl [Har2]; · iexact Har2
    isplitl [Hb0]; · iexact Hb0
    iexact Hout
  iintro ⟨HO, Har2, Hrv2, Hb0, Hout⟩
  ihave Hb0 := (show wslotPts c 0 (inWSlot (wrows (wmem m c) (ord c 3))) ⊢ iprop(∃ f, wslotPts (F := F) c 0 f) from by iintro H; iexists _; iexact H) $$ Hb0
  iapply (st_wstart m c (ord c 6) 0 (of13_3 c) (of14_3 c) rfl rfl (wS_eq 0 0 rfl _) (wS_eq 0 1 rfl _)) $$ [Hw6 Hb0 Hv0]
  · isplitl [Hw6]; · iexact Hw6
    isplitl [Hb0]; · iexact Hb0
    iexact Hv0
  iintro HF0
  iapply (st_wwait m c (ord c 4) 1 (wS_eq 1 0 rfl _) (wS_eq 1 1 rfl _)) $$ [HF1 HO]
  · isplitl [HF1]; · iexact HF1
    iexact HO
  iintro ⟨Hw4, Hb1, Hv1, HO⟩
  iapply (st_recv m K c (src c 3) (src_ne c 3) 1 (recvS_eq (src c 3) (of15_0 c) _) (of17_0 c) rfl _ _ (pay := fun a b x _ => k0_pay13 a b x) (fun b w o => pay_recv b w o)) $$ [HO Hcr3 Har3 Hb1 Hout]
  · isplitr; · iexact HR
    isplitl [HO]; · iexact HO
    isplitl [Hcr3]; · iexact Hcr3
    isplitl [Har3]; · iexact Har3
    isplitl [Hb1]; · iexact Hb1
    iexact Hout
  iintro ⟨HO, Har3, Hrv3, Hb1, Hout⟩
  ihave Hb1 := (show wslotPts c 1 (inWSlot (wrows (wmem m c) (ord c 4))) ⊢ iprop(∃ f, wslotPts (F := F) c 1 f) from by iintro H; iexists _; iexact H) $$ Hb1
  iapply (st_wstart m c (ord c 7) 1 (of13_2 c) (of14_2 c) rfl rfl (wS_eq 1 0 rfl _) (wS_eq 1 1 rfl _)) $$ [Hw7 Hb1 Hv1]
  · isplitl [Hw7]; · iexact Hw7
    isplitl [Hb1]; · iexact Hb1
    iexact Hv1
  iintro HF1
  iapply (st_wwait m c (ord c 5) 2 (wS_eq 2 0 rfl _) (wS_eq 2 1 rfl _)) $$ [HF2 HO]
  · isplitl [HF2]; · iexact HF2
    iexact HO
  iintro ⟨Hw5, Hb2, Hv2, HO⟩
  iapply (st_recv m K c (src c 4) (src_ne c 4) 2 (recvS_eq (src c 4) (of15_1 c) _) (of17_1 c) rfl _ _ (pay := fun a b x _ => k0_pay14 a b x) (fun b w o => pay_recv b w o)) $$ [HO Hcr4 Har4 Hb2 Hout]
  · isplitr; · iexact HR
    isplitl [HO]; · iexact HO
    isplitl [Hcr4]; · iexact Hcr4
    isplitl [Har4]; · iexact Har4
    isplitl [Hb2]; · iexact Hb2
    iexact Hout
  iintro ⟨HO, Har4, Hrv4, Hb2, Hout⟩
  ihave Hb2 := (show wslotPts c 2 (inWSlot (wrows (wmem m c) (ord c 5))) ⊢ iprop(∃ f, wslotPts (F := F) c 2 f) from by iintro H; iexists _; iexact H) $$ Hb2
  iapply (st_wwait m c (ord c 6) 0 (wS_eq 0 0 rfl _) (wS_eq 0 1 rfl _)) $$ [HF0 HO]
  · isplitl [HF0]; · iexact HF0
    iexact HO
  iintro ⟨Hw6, Hb0, Hv0, HO⟩
  iapply (st_recv m K c (src c 5) (src_ne c 5) 0 (recvS_eq (src c 5) (of15_3 c) _) (of17_3 c) rfl _ _ (pay := fun a b x _ => k0_pay16 (k0_pay15 a b) x) (fun b w o => pay_recv6 b w o)) $$ [HO Hcr5 Har5 Hb0 Hout]
  · isplitr; · iexact HR
    isplitl [HO]; · iexact HO
    isplitl [Hcr5]; · iexact Hcr5
    isplitl [Har5]; · iexact Har5
    isplitl [Hb0]; · iexact Hb0
    iexact Hout
  iintro ⟨HO, Har5, Hrv5, Hb0, Hout⟩
  ihave Hb0 := (show wslotPts c 0 (inWSlot (wrows (wmem m c) (ord c 6))) ⊢ iprop(∃ f, wslotPts (F := F) c 0 f) from by iintro H; iexists _; iexact H) $$ Hb0
  iapply (st_wwait m c (ord c 7) 1 (wS_eq 1 0 rfl _) (wS_eq 1 1 rfl _)) $$ [HF1 HO]
  · isplitl [HF1]; · iexact HF1
    iexact HO
  iintro ⟨Hw7, Hb1, Hv1, HO⟩
  iapply (st_recv m K c (src c 6) (src_ne c 6) 1 (recvS_eq (src c 6) (of15_2 c) _) (of17_2 c) rfl _ _ (pay := fun a b x _ => k0_pay19 (k0_pay17 a) (k0_pay18 b) (constant S512x2048 .f32 0x00000000#32) x) (fun b w o => pay_recv7 b w o)) $$ [HO Hcr6 Har6 Hb1 Hout]
  · isplitr; · iexact HR
    isplitl [HO]; · iexact HO
    isplitl [Hcr6]; · iexact Hcr6
    isplitl [Har6]; · iexact Har6
    isplitl [Hb1]; · iexact Hb1
    iexact Hout
  iintro ⟨HO, Har6, Hrv6, Hb1, Hout⟩
  ihave Hb1 := (show wslotPts c 1 (inWSlot (wrows (wmem m c) (ord c 7))) ⊢ iprop(∃ f, wslotPts (F := F) c 1 f) from by iintro H; iexists _; iexact H) $$ Hb1
  iapply (st_swait m K c 0 (sendS_eq 0 rfl _)) $$ [HO Hcs0 Has0]
  · isplitr; · iexact HR
    isplitl [HO]; · iexact HO
    isplitl [Hcs0]; · iexact Hcs0
    iexact Has0
  iintro ⟨HO, Has0, Hsn0⟩
  iapply (st_swait m K c 1 (sendS_eq 1 rfl _)) $$ [HO Hcs1 Has1]
  · isplitr; · iexact HR
    isplitl [HO]; · iexact HO
    isplitl [Hcs1]; · iexact Hcs1
    iexact Has1
  iintro ⟨HO, Has1, Hsn1⟩
  iapply (st_swait m K c 2 (sendS_eq 2 rfl _)) $$ [HO Hcs2 Has2]
  · isplitr; · iexact HR
    isplitl [HO]; · iexact HO
    isplitl [Hcs2]; · iexact Hcs2
    iexact Has2
  iintro ⟨HO, Has2, Hsn2⟩
  iapply (st_swait m K c 3 (sendS_eq 3 rfl _)) $$ [HO Hcs3 Has3]
  · isplitr; · iexact HR
    isplitl [HO]; · iexact HO
    isplitl [Hcs3]; · iexact Hcs3
    iexact Has3
  iintro ⟨HO, Has3, Hsn3⟩
  iapply (st_swait m K c 4 (sendS_eq 4 rfl _)) $$ [HO Hcs4 Has4]
  · isplitr; · iexact HR
    isplitl [HO]; · iexact HO
    isplitl [Hcs4]; · iexact Hcs4
    iexact Has4
  iintro ⟨HO, Has4, Hsn4⟩
  iapply (st_swait m K c 5 (sendS_eq 5 rfl _)) $$ [HO Hcs5 Has5]
  · isplitr; · iexact HR
    isplitl [HO]; · iexact HO
    isplitl [Hcs5]; · iexact Hcs5
    iexact Has5
  iintro ⟨HO, Has5, Hsn5⟩
  iapply (st_swait m K c 6 (sendS_eq 6 rfl _)) $$ [HO Hcs6 Has6]
  · isplitr; · iexact HR
    isplitl [HO]; · iexact HO
    isplitl [Hcs6]; · iexact Hcs6
    iexact Has6
  iintro ⟨HO, Has6, Hsn6⟩
  iapply (st_final c _ (sxstg m c) (swstg m c) (pay := fun u v p _ => k0_pay1 (k0_pay20 (u (Shape.Idx.first (by decide))) (v (Shape.Idx.first (by decide))) p) (Scalar.ofBits .f32 0x00000000#32)) (fun s t a => pay_final s t a)) $$ [Hsx Hsw Hout]
  · isplitl [Hsx]; · iexact Hsx
    isplitl [Hsw]; · iexact Hsw
    iexact Hout
  iintro ⟨Hsx, Hsw, Hout⟩
  rw [wp_ret]; imodintro
  iapply Hk
  isplitl [HO]; · iexact HO
  isplitl [Hx Hsx Hsw]
  · isplitl [Hx]; · iexact Hx
    isplitl [Hsx] <;> iassumption
  isplitl [Hout]; · iexact Hout
  isplitl [HaB]; · iexact HaB
  isplitl [Has0 Hsn0 Has1 Hsn1 Has2 Hsn2 Has3 Hsn3 Has4 Hsn4 Has5 Hsn5 Has6 Hsn6]
  · isplitl [Has0 Hsn0]
    · isplitl [Has0]; · iexact Has0
      iexact Hsn0
    isplitl [Has1 Hsn1]
    · isplitl [Has1]; · iexact Has1
      iexact Hsn1
    isplitl [Has2 Hsn2]
    · isplitl [Has2]; · iexact Has2
      iexact Hsn2
    isplitl [Has3 Hsn3]
    · isplitl [Has3]; · iexact Has3
      iexact Hsn3
    isplitl [Has4 Hsn4]
    · isplitl [Has4]; · iexact Has4
      iexact Hsn4
    isplitl [Has5 Hsn5]
    · isplitl [Has5]; · iexact Has5
      iexact Hsn5
    isplitl [Has6]; · iexact Has6
    iexact Hsn6
  isplitl [Har0 Hrv0 Har1 Hrv1 Har2 Hrv2 Har3 Hrv3 Har4 Hrv4 Har5 Hrv5 Har6 Hrv6]
  · isplitl [Har0 Hrv0]
    · isplitl [Har0]; · iexact Har0
      iexists _; iexact Hrv0
    isplitl [Har1 Hrv1]
    · isplitl [Har1]; · iexact Har1
      iexists _; iexact Hrv1
    isplitl [Har2 Hrv2]
    · isplitl [Har2]; · iexact Har2
      iexists _; iexact Hrv2
    isplitl [Har3 Hrv3]
    · isplitl [Har3]; · iexact Har3
      iexists _; iexact Hrv3
    isplitl [Har4 Hrv4]
    · isplitl [Har4]; · iexact Har4
      iexists _; iexact Hrv4
    isplitl [Har5 Hrv5]
    · isplitl [Har5]; · iexact Har5
      iexists _; iexact Hrv5
    isplitl [Har6]; · iexact Har6
    iexists _; iexact Hrv6
  isplitl [Hw0 Hw1 Hw2 Hw3 Hw4 Hw5 Hw6 Hw7]
  · isplitl [Hw0]
    · iexact Hw0
    isplitl [Hw1]
    · iexact Hw1
    isplitl [Hw2]
    · iexact Hw2
    isplitl [Hw3]
    · iexact Hw3
    isplitl [Hw4]
    · iexact Hw4
    isplitl [Hw5]
    · iexact Hw5
    isplitl [Hw6]
    · iexact Hw6
    iexact Hw7
  isplitl [Hb0 Hv0]
  · isplitl [Hb0]; · iexact Hb0
    iexact Hv0
  isplitl [Hb1 Hv1]
  · isplitl [Hb1]; · iexact Hb1
    iexact Hv1
  isplitl [Hb2]; · iexact Hb2
  iexact Hv2

end Cert.Ring

end
-- ==== Proof.Share.lean ====
/-
  A device's share of buffers, semaphores and tokens at the launch, cut into what the body takes step by step, and put
  together again afterwards; the seventeen cells closed; the body's obligation towards the launch.
-/
module

public import proofs.«01_k».proof.Proof.Body
public import Idealize.ShloMosaic.Lib.Ring

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## One device and the others -/

theorem split_sg (c : Dev nD) (Φ : Dev nD → sProp 𝕄) : bigSep Finset.univ Φ = iprop(Φ c ∗ bigSep Finset.univ fun d : Fin 7 => Φ (sg c d)) := by
  rw [bigSep_univ_at Φ c, others_sg c, bigSep_map]; rfl
theorem split_src (c : Dev nD) (Φ : Dev nD → sProp 𝕄) : bigSep Finset.univ Φ = iprop(Φ c ∗ bigSep Finset.univ fun d : Fin 7 => Φ (src c d)) := by
  rw [bigSep_univ_at Φ c, others_src c, bigSep_map]; rfl
theorem erase_last : Finset.univ.erase (7 : Fin 8) = Finset.univ.map (Fin.castSuccEmb : Fin 7 ↪ Fin 8) := by decide
theorem split_last (Φ : Fin 8 → sProp 𝕄) : bigSep Finset.univ Φ = iprop(Φ 7 ∗ bigSep Finset.univ fun d : Fin 7 => Φ d.castSucc) := by
  rw [bigSep_univ_at Φ 7, erase_last, bigSep_map]; rfl

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The buffers -/

/-- A scratch buffer whole at some contents. -/
abbrev anyPts (c : Dev nD) (b : Ref sig .tc) : sProp 𝕄 := iprop(∃ f : Buf (Elt F) ((c : Thread nD τ).loc b), ((c : Thread nD τ).loc b) ↦{fullShare} f)
abbrev wPts (c : Dev nD) : sProp 𝕄 := iprop((c : Thread nD τ).loc main_arg1 ↦{fullShare} wmem m c)

theorem wslotSet_disj (p q : Fin 3) (h : p ≠ q) : Disjoint (wslotSet p) (wslotSet q) :=
  Finset.disjoint_filter.mpr fun i _ h1 h2 => h (Fin.ext (h1.symm.trans h2))
theorem wslotSet_cover : Finset.univ.biUnion wslotSet = Finset.univ :=
  Finset.eq_univ_iff_forall.mpr fun i => Finset.mem_biUnion.mpr ⟨i 0, Finset.mem_univ _, Finset.mem_filter.mpr ⟨Finset.mem_univ _, rfl⟩⟩

/-- A buffer held at some contents is held piece by piece, each piece at some contents, -/
theorem any_split {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  have key (f : Buf (Elt F) ℓ) : (ℓ ↦{fullShare} f : sProp 𝕄) ⊢ bigSep Finset.univ fun b => iprop(∃ f : Buf (Elt F) ℓ, ℓ ↦[I b]{fullShare} f) :=
    (Entails.of_eq (Ring.pointsTo_blocks I hd hc f)).trans (bigSep_mono fun b _ => show (ℓ ↦[I b]{fullShare} f : sProp 𝕄) ⊢ iprop(∃ f : Buf (Elt F) ℓ, ℓ ↦[I b]{fullShare} f) from by
      iintro H; iexists f; iexact H)
  iintro ⟨%f, H⟩
  iapply (key f); iexact H
/-- and the pieces make the buffer again. -/
theorem any_join {ℓ : Loc nD τ sig} {B : Type} [Fintype B] [DecidableEq B] (I : B → Finset (Idx ℓ))
    (hd : ∀ b b', b ≠ b' → Disjoint (I b) (I b')) (hc : Finset.univ.biUnion I = Finset.univ) (f₀ : Buf (Elt F) ℓ) :
    (bigSep Finset.univ fun b => iprop(∃ f : Buf (Elt F) ℓ, ℓ ↦[I b]{fullShare} f)) ⊢ (iprop(∃ f : Buf (Elt F) ℓ, ℓ ↦{fullShare} f) : sProp 𝕄) :=
  Ring.pointsTo_blocks_join_exists I hd hc f₀

abbrev sndAny (c : Dev nD) (p : Fin 8) : sProp 𝕄 := iprop(∃ f, sndPts (F := F) c p f)
abbrev rcvAny (c : Dev nD) (p : Fin 8) : sProp 𝕄 := iprop(∃ f, rcvPts (F := F) c p f)
abbrev wbAny (c : Dev nD) (s : Fin 3) : sProp 𝕄 := iprop(∃ f, wslotPts (F := F) c s f)

theorem snd_split (c : Dev nD) : anyPts (F := F) c cc0_scratch0 ⊢ bigSep Finset.univ (sndAny (F := F) c) :=
  any_split (ℓ := (c : Thread nD τ).loc cc0_scratch0) slotSet slotSet_disj slotSet_cover
include m in
theorem snd_join (c : Dev nD) : bigSep Finset.univ (sndAny (F := F) c) ⊢ anyPts (F := F) c cc0_scratch0 :=
  any_join (ℓ := (c : Thread nD τ).loc cc0_scratch0) slotSet slotSet_disj slotSet_cover (m ((c : Thread nD τ).loc cc0_scratch0))
theorem rcv_split (c : Dev nD) : anyPts (F := F) c cc0_scratch1 ⊢ bigSep Finset.univ (rcvAny (F := F) c) :=
  any_split (ℓ := (c : Thread nD τ).loc cc0_scratch1) slotSet slotSet_disj slotSet_cover
include m in
theorem rcv_join (c : Dev nD) : bigSep Finset.univ (rcvAny (F := F) c) ⊢ anyPts (F := F) c cc0_scratch1 :=
  any_join (ℓ := (c : Thread nD τ).loc cc0_scratch1) slotSet slotSet_disj slotSet_cover (m ((c : Thread nD τ).loc cc0_scratch1))
theorem wb_split (c : Dev nD) : anyPts (F := F) c cc0_scratch2 ⊢ bigSep Finset.univ (wbAny (F := F) c) :=
  any_split (ℓ := (c : Thread nD τ).loc cc0_scratch2) wslotSet wslotSet_disj wslotSet_cover
include m in
theorem wb_join (c : Dev nD) : bigSep Finset.univ (wbAny (F := F) c) ⊢ anyPts (F := F) c cc0_scratch2 :=
  any_join (ℓ := (c : Thread nD τ).loc cc0_scratch2) wslotSet wslotSet_disj wslotSet_cover (m ((c : Thread nD τ).loc cc0_scratch2))

theorem bigSep2 (Φ : Fin 2 → sProp 𝕄) : bigSep Finset.univ Φ = iprop(Φ 0 ∗ Φ 1) := by
  rw [bigSep_univ_eq_bigSepL [0, 1] (by decide) (by decide)]; rfl
/-- The weights, in the order the products take their row blocks. -/
theorem w_pieces (c : Dev nD) : wPts m c = bigSep Finset.univ fun k => wIn m c k := by
  unfold wPts
  rw [Ring.pointsTo_blocks (ℓ := (c : Thread nD τ).loc main_arg1) partSet partSet_disj partSet_cover (wmem m c), bigSep_univ_prod,
    bigSep_univ_equiv (ordE c)]
  exact bigSep_congr fun k _ => by rw [bigSep2]; rfl

/-! ## The share at the launch -/

/-- The six semaphores of the weight copies. -/
def wSems (c : Dev nD) : sProp 𝕄 := bigSep Finset.univ fun s : Fin 3 => iprop(semVal ((c : Thread nD τ), .dma (wS s 0)) 0 ∗ semVal ((c : Thread nD τ), .dma (wS s 1)) 0)
/-- The tokens the device pays with. -/
def payToks (c : Dev nD) : sProp 𝕄 :=
  iprop((bigSep Finset.univ fun d : Fin 7 => dutyTok ER (barCell (sg c d)) 0 c)
    ∗ (bigSep Finset.univ fun i : Fin 7 => dutyTok ER (sendCell c i.castSucc) 0 0)
    ∗ bigSep Finset.univ fun i : Fin 7 => dutyTok ER (recvCell (tgt c i) c) 0 0)
def positions (c : Dev nD) : sProp 𝕄 := bigSep Finset.univ fun k : CK => atPos ER (kcell (c, k)) 0 ∅ 0
def linear (c : Dev nD) : sProp 𝕄 := iprop(positions (F := F) c ∗ payToks (F := F) c ∗ wSems (F := F) c)
def creds (c : Dev nD) : sProp 𝕄 :=
  iprop(cred (tallyAt (barCell c) () 7) ∗ bigSep Finset.univ fun j : Fin 7 => cred (tallyAt (recvCell c (src c j)) () N))
def start (c : Dev nD) : sProp 𝕄 := iprop((∃ K, records m K ∗ linear (F := F) c) ∗ creds (F := F) c ∗ levAts L lv ∗ wPts m c)

def scratch (c : Dev nD) : sProp 𝕄 := iprop(anyPts (F := F) c cc0_scratch0 ∗ anyPts (F := F) c cc0_scratch1 ∗ anyPts (F := F) c cc0_scratch2)
def Φ₀ (c : Dev nD) : sProp 𝕄 := iprop(start m c ∗ scratch (F := F) c)
/-- Afterwards: every cell closed at zero, the scratch buffers whole, the weights as they were. -/
def Φ₁ (c : Dev nD) : sProp 𝕄 :=
  iprop((bigSep Finset.univ fun k : CK => semVal (kcell (c, k)) 0) ∗ wSems (F := F) c ∗ wPts m c ∗ scratch (F := F) c)

/-- What the body does not take: the spare slot of each ring buffer, the positions of the two cells nothing uses. -/
def spare (c : Dev nD) : sProp 𝕄 :=
  iprop(sndAny (F := F) c 7 ∗ rcvAny (F := F) c c ∗ atPos ER (sendCell c 7) 0 ∅ 0 ∗ atPos ER (recvCell c c) 0 ∅ 0)

theorem positions_eq (c : Dev nD) : positions (F := F) c = iprop(atPos ER (barCell c) 0 ∅ 0
    ∗ (atPos ER (sendCell c 7) 0 ∅ 0 ∗ bigSep Finset.univ fun i : Fin 7 => atPos ER (sendCell c i.castSucc) 0 ∅ 0)
    ∗ (atPos ER (recvCell c c) 0 ∅ 0 ∗ bigSep Finset.univ fun j : Fin 7 => atPos ER (recvCell c (src c j)) 0 ∅ 0)) := by
  unfold positions
  rw [bigSep_univ_sum, bigSep_univ_sum, Finset.univ_unique, bigSep_singleton, split_last, split_src c]
  rfl
theorem zeros_eq (c : Dev nD) : (bigSep Finset.univ fun k : CK => (semVal (kcell (c, k)) 0 : sProp 𝕄)) = iprop(semVal (barCell c) 0
    ∗ (semVal (sendCell c 7) 0 ∗ bigSep Finset.univ fun i : Fin 7 => semVal (sendCell c i.castSucc) 0)
    ∗ (semVal (recvCell c c) 0 ∗ bigSep Finset.univ fun j : Fin 7 => semVal (recvCell c (src c j)) 0)) := by
  rw [bigSep_univ_sum, bigSep_univ_sum, Finset.univ_unique, bigSep_singleton, split_last, split_src c]
  rfl

/-- The device's share, handed to the body. -/
theorem core_in (c : Dev nD) :
    iprop(linear (F := F) c ∗ creds (F := F) c ∗ wPts m c ∗ scratch (F := F) c ∗ owesX (F := F) c (O₀ c) ∗ bufs m c ∗ (∃ f, outPts (F := F) c f))
      ⊢ iprop(coreIn m c ∗ spare (F := F) c) := by
  unfold linear creds scratch payToks wSems
  rw [positions_eq, w_pieces]
  iintro ⟨⟨⟨HaB, ⟨Ha7, HaS⟩, HaC, HaR⟩, ⟨HtB, HtS, HtR⟩, Hws⟩, ⟨HcB, HcR⟩, Hw, ⟨H0, H1, H2⟩, HO, Hb, Hout⟩
  ihave H0 := (snd_split c) $$ H0
  ihave H0 := (Entails.of_eq (split_last (sndAny (F := F) c))) $$ H0
  ihave H1 := (rcv_split c) $$ H1
  ihave H1 := (Entails.of_eq (split_sg c (rcvAny (F := F) c))) $$ H1
  ihave H2 := (wb_split c) $$ H2
  icases H0 with ⟨H07, H0⟩
  icases H1 with ⟨H1c, H1⟩
  unfold coreIn spare sgIn tfIn rvIn wbIn
  simp only [bigSep_sep']
  isplitr [H07 H1c Ha7 HaC]
  · isplitl [HO]; · iexact HO
    isplitl [Hb]; · iexact Hb
    isplitl [Hout]; · iexact Hout
    isplitl [HcB]; · iexact HcB
    isplitl [HaB]; · iexact HaB
    isplitl [HtB H1]
    · isplitl [HtB]; · iexact HtB
      iexact H1
    isplitl [H0 HtS HtR]
    · isplitl [H0]; · iexact H0
      isplitl [HtS] <;> iassumption
    isplitl [HaS]; · iexact HaS
    isplitl [HcR HaR]
    · isplitl [HcR] <;> iassumption
    isplitl [Hw]; · iexact Hw
    isplitl [H2]; · iexact H2
    iexact Hws
  · isplitl [H07]; · iexact H07
    isplitl [H1c]; · iexact H1c
    isplitl [Ha7] <;> iassumption

variable (K : Dev nD × CK → ℕ)

/-- What the body leaves, put together: all cells closed, the buffers whole. -/
theorem core_out (c : Dev nD) :
    iprop(records m K ∗ coreOut m c ∗ spare (F := F) c)
      ⊢ |={Set.univ}=> iprop(Φ₁ m c ∗ owesX (F := F) c 0 ∗ bufs m c ∗ outPts c (outAt m c)) := by
  unfold coreOut spare sdOut rvOut wbIn
  simp only [bigSep_sep']
  iintro ⟨#HR, ⟨HO, Hb, Hout, HaB, ⟨HaS, H0⟩, ⟨HaR, H1⟩, Hw, H2, Hws⟩, H07, H1c, Ha7, HaC⟩
  imod (close_cell m K (c, kBar) 1 (duties_later m _)) $$ [HaB] with HzB
  · isplitr; · iexact HR
    iexact HaB
  imod (close_cell m K (c, kSend 7) 0 (duties_none m (duties_send7 m c))) $$ [Ha7] with Hz7
  · isplitr; · iexact HR
    iexact Ha7
  imod (close_cell m K (c, kRecv c) 0 (duties_none m (duties_recv_self m c))) $$ [HaC] with HzC
  · isplitr; · iexact HR
    iexact HaC
  imod ((bigSep_with (R := records m K) fun (i : Fin 7) _ => close_cell m K (c, kSend i.castSucc) 1 (duties_later m _)).trans (bigSep_fupd Finset.univ _)) $$ [HaS] with HzS
  · isplitr; · iexact HR
    iexact HaS
  imod ((bigSep_with (R := records m K) fun (j : Fin 7) _ => close_cell m K (c, kRecv (src c j)) 1 (duties_later m _)).trans (bigSep_fupd Finset.univ _)) $$ [HaR] with HzR
  · isplitr; · iexact HR
    iexact HaR
  imodintro
  unfold Φ₁ scratch wSems
  rw [zeros_eq, w_pieces]
  isplitr [HO Hb Hout]
  · isplitl [HzB Hz7 HzS HzC HzR]
    · isplitl [HzB]; · iexact HzB
      isplitl [Hz7 HzS]
      · isplitl [Hz7]; · iexact Hz7
        iexact HzS
      isplitl [HzC]; · iexact HzC
      iexact HzR
    isplitl [Hws]
    · ihave Hws := (Entails.of_eq (bigSep_sep' Finset.univ _ _).symm) $$ Hws
      iexact Hws
    isplitl [Hw]; · iexact Hw
    isplitl [H07 H0]
    · iapply (snd_join m c)
      iapply (Entails.of_eq (split_last (sndAny (F := F) c)).symm)
      isplitl [H07] <;> iassumption
    isplitl [H1c H1]
    · iapply (rcv_join m c)
      iapply (Entails.of_eq (split_src c (rcvAny (F := F) c)).symm)
      isplitl [H1c] <;> iassumption
    iapply (wb_join m c); iexact H2
  isplitl [HO]; · iexact HO
  isplitl [Hb] <;> iassumption

end Cert.Ring

end
-- ==== Proof.Oblig.lean ====
/-
  The kernel's data for the launch, and the body's obligation towards it.
-/
module

public import proofs.«01_k».proof.Proof.Share

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (dats m 0 c).before (0 : Fin 4) t0_0 d = xstg m c := by unfold Dat.before; rw [if_pos (fetch0_0 t0_0)]; rfl
theorem before_sx (c : Dev nD) (d) : (dats m 0 c).before (1 : Fin 4) t0_0 d = sxstg m c := by unfold Dat.before; rw [if_pos (fetch0_1 t0_0)]; rfl
theorem before_sw (c : Dev nD) (d) : (dats m 0 c).before (2 : Fin 4) t0_0 d = swstg m c := by unfold Dat.before; rw [if_pos (fetch0_2 t0_0)]; rfl

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xstg m c) ∗ stg c cc0_stg1_0 (sxstg m c)
    ∗ stg c cc0_stg2_0 (swstg m c) ∗ stg c cc0_stg3_0 (outAt m c))

theorem post_intro (c : Dev nD) : iprop(Φ₁ m c ∗ owesX (F := F) c 0 ∗ bufs m c ∗ outPts c (outAt m c)) ⊢ bodyPost m c := by
  unfold bodyPost bufs owesX Dat.owesAt Pipeline.owesWithin
  rw [show (dats m 0 c).owed t0_0.succ = 0 from rfl]
  iintro ⟨HΦ, ⟨%W, HO⟩, ⟨Hx, Hsx, Hsw⟩, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

theorem body_wp (c : Dev nD) : bodyPre m c ⊢ wp frame (wpE (defs₀ (F := F)) 𝒱₀ c none) Set.univ (bodyAt0 (F := F) t0_0) (fun _ => bodyPost m c) := by
  unfold bodyPre Φ₀ start Dat.owesAt Pipeline.owesWithin
  rw [show (dats m 0 c).owed t0_0.castSucc = O₀ c from rfl]
  iintro ⟨⟨⟨⟨%K, #HR, Hlin⟩, Hcr, #Hlev, Hw⟩, Hscr⟩, ⟨%W, %hW, HO⟩, ⟨%d0, %g0, %hg0, Hx⟩, ⟨%d1, %g1, %hg1, Hsx⟩, ⟨%d2, %g2, %hg2, Hsw⟩, ⟨%d3, %g3, %hg3, Hout⟩⟩
  rw [before_x] at hg0
  rw [before_sx] at hg1
  rw [before_sw] at hg2
  subst hg0 hg1 hg2
  ihave Hin := (core_in m c) $$ [Hlin Hcr Hw Hscr HO Hx Hsx Hsw Hout]
  · isplitl [Hlin]; · iexact Hlin
    isplitl [Hcr]; · iexact Hcr
    isplitl [Hw]; · iexact Hw
    isplitl [Hscr]; · iexact Hscr
    isplitl [HO]; · unfold owesX; iexists W; iexact HO
    isplitl [Hx Hsx Hsw]
    · unfold bufs
      isplitl [Hx]; · iexact Hx
      isplitl [Hsx] <;> iassumption
    iexists g3; iexact Hout
  icases Hin with ⟨Hin, Hsp⟩
  iapply (wp_fupd frame _ Set.univ _ _)
  iapply (sound_body m K c _)
  isplitr; · iexact HR
  isplitr; · iexact Hlev
  isplitl [Hin]; · iexact Hin
  iintro Hco
  imod (core_out m K c) $$ [Hco Hsp] with H
  · isplitr; · iexact HR
    isplitl [Hco] <;> iassumption
  imodintro
  iapply (post_intro m c); iexact H

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 8000 in
theorem body_obligation (c : Dev nD) : BodyObligation (dats (F := F) m 0 c) (defs₀ (F := F)) 𝒱₀ () Set.univ := fun t => by
  rw [fin_N0 t]
  rw [bigSep_W, bigSep_W]
  simp only [owns_buf]
  exact body_wp m c

end Cert.Ring

end
-- ==== Proof.Launch.lean ====
/-
  The launch: the ghost state of the seventeen cells of each device minted and dealt out, the credits each device waits
  for, and the run of the whole program on the eight devices.
-/
module

public import proofs.«01_k».proof.Proof.Oblig
public import Idealize.ShloMosaic.Lib.Pipeline.CollectiveSegs
public import Idealize.ShloMosaic.Lib.Quiescent

@[expose] public section

noncomputable section

namespace Cert.Ring

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

def cells : Finset (GSem nD τ sig) := Finset.univ.map ⟨kcell, kcell_injective⟩

/-- The duties at a device's own cells: its barrier's, its send cells', its receive cells'. -/
abbrev TK : Type := Fin 7 ⊕ (Fin 7 ⊕ Fin 7)
def tokOf (ct : Dev nD × TK) : GSem nD τ sig × ℕ × Fin 8 := match ct.2 with
  | .inl d => (barCell ct.1, 0, sg ct.1 d)
  | .inr (.inl i) => (sendCell ct.1 i.castSucc, 0, 0)
  | .inr (.inr j) => (recvCell ct.1 (src ct.1 j), 0, 0)
/-- The cell among the seventeen a duty is at, and its number. -/
def tokKey (c : Dev nD) (t : TK) : CK × Fin 8 := match t with
  | .inl d => (kBar, sg c d)
  | .inr (.inl i) => (kSend i.castSucc, 0)
  | .inr (.inr j) => (kRecv (src c j), 0)
theorem tokKey_inj : ∀ (c : Dev nD) (a b : TK), tokKey c a = tokKey c b → a = b := by
  intro c a b h
  rcases a with a | a | a <;> rcases b with b | b | b <;> simp only [tokKey, Prod.mk.injEq, Sum.inl.injEq, Sum.inr.injEq, reduceCtorEq, true_and, and_true, false_and] at h
  · exact congrArg _ (sg_inj c a b h)
  · exact congrArg _ (congrArg _ (Fin.castSucc_injective 7 h))
  · exact congrArg _ (congrArg _ (src_inj c a b h))
theorem tokOf_eq (c : Dev nD) (t : TK) : tokOf (c, t) = (kcell (c, (tokKey c t).1), 0, (tokKey c t).2) := by rcases t with t | t | t <;> rfl
theorem tokOf_injective : Function.Injective tokOf := by
  rintro ⟨c, t⟩ ⟨c', t'⟩ h
  rw [tokOf_eq, tokOf_eq] at h
  have hk := kcell_injective (congrArg Prod.fst h)
  obtain rfl : c = c' := congrArg Prod.fst hk
  have := tokKey_inj c t t' (Prod.ext (congrArg Prod.snd hk) (congrArg (fun x : GSem nD τ sig × ℕ × Fin 8 => x.2.2) h))
  rw [this]
def minted : Finset (GSem nD τ sig × ℕ × Fin 8) := Finset.univ.map ⟨tokOf, tokOf_injective⟩

def u₀ : UU := (initOf (Pipeline.cells cfgs cellOf_inj) (Pipeline.launchToks cfgs cellOf_inj), (initOf cells minted, 1))

/-- The tokens of a device's own cells. -/
def ownToks (c : Dev nD) : sProp 𝕄 :=
  iprop((bigSep Finset.univ fun d : Fin 7 => dutyTok ER (barCell c) 0 (sg c d))
    ∗ (bigSep Finset.univ fun i : Fin 7 => dutyTok ER (sendCell c i.castSucc) 0 0)
    ∗ bigSep Finset.univ fun j : Fin 7 => dutyTok ER (recvCell c (src c j)) 0 0)

def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ ownToks (F := F) c)
def G' (c : Dev nD) : sProp 𝕄 := iprop(∃ K, records m K ∗ linear (F := F) c)

theorem fund_cells : BI.own (ER (initOf cells minted)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep minted (fun x => (dutyTok ER x.1 x.2.1 x.2.2 : sProp 𝕄)) = bigSep Finset.univ fun c : Dev nD => ownToks (F := F) c := by
    unfold minted; rw [bigSep_map, bigSep_univ_prod]
    exact bigSep_congr fun c _ => by unfold ownToks; rw [bigSep_univ_sum, bigSep_univ_sum]; rfl
  iintro HX
  imod (Rounds.fund ER (ringRd m) cells minted) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The semaphores -/

/-- The kernel's own semaphores: the cells but the barrier, and the weight copies' six. -/
abbrev OK : Type := (Fin 8 ⊕ Fin 8) ⊕ (Fin 3 × Fin 2)
def osem : OK → SemLoc sig
  | .inl k => csem (.inr k)
  | .inr (s, h) => .dma (wS s h)
theorem ownSemFacts : Pipeline.OwnSemFacts cfg0.spec osem := by decide +kernel

theorem ownSems_eq (c : Dev nD) : (Pipeline.ownSems0 (Ix := Unit) (Name := ℕ) (U := UU) (Lvl := ℕ) (Val := Elt F) (τ := τ) osem c : sProp 𝕄)
    = iprop((bigSep Finset.univ fun k : Fin 8 ⊕ Fin 8 => semVal (kcell (c, .inr k)) 0) ∗ wSems (F := F) c) := by
  unfold Pipeline.ownSems0 wSems
  rw [bigSep_univ_sum, bigSep_univ_prod]
  exact congrArg _ (bigSep_congr fun s _ => bigSep2 _)
theorem barSem_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) : (bigSep Finset.univ fun k : CK => (semVal (kcell (c, k)) 0 : sProp 𝕄))
    = iprop(semVal (barCell c) 0 ∗ bigSep Finset.univ fun k : Fin 8 ⊕ Fin 8 => semVal (kcell (c, .inr k)) 0) := by
  rw [bigSep_univ_sum, Finset.univ_unique, bigSep_singleton]; rfl

/-- A device's cells put under the schedule. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ ownToks (F := F) c ∗ wSems (F := F) c) := by
  unfold G
  rw [ownSems_eq, barSem_eq]
  iintro ⟨⟨Hk, Hw⟩, Hb, Hst, Hat, Htok⟩
  ihave Hv := (Entails.of_eq (sems_eq (F := F) c).symm) $$ [Hb Hk]
  · isplitl [Hb] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Minted per cell, dealt to the device that pays. -/
theorem deal_toks : (bigSep Finset.univ fun c : Dev nD => ownToks (F := F) c) = bigSep Finset.univ fun c : Dev nD => payToks (F := F) c := by
  have hB : (bigSep Finset.univ fun c : Dev nD => bigSep Finset.univ fun d : Fin 7 => (dutyTok ER (barCell c) 0 (sg c d) : sProp 𝕄))
      = bigSep Finset.univ fun c : Dev nD => bigSep Finset.univ fun d : Fin 7 => dutyTok ER (barCell (sg c d)) 0 c := by
    have h1 (c : Dev nD) (Φ : Dev nD → sProp 𝕄) : (bigSep Finset.univ fun d : Fin 7 => Φ (sg c d)) = bigSep (Finset.univ.erase c) Φ := by
      rw [others_sg c, bigSep_map]; rfl
    rw [bigSep_congr fun c _ => h1 c fun q => dutyTok ER (barCell c) 0 q, bigSep_congr fun c _ => h1 c fun q => dutyTok ER (barCell q) 0 c]
    exact bigSep_erase_comm fun c q => (dutyTok ER (barCell c) 0 q : sProp 𝕄)
  have hR : (bigSep Finset.univ fun c : Dev nD => bigSep Finset.univ fun j : Fin 7 => (dutyTok ER (recvCell c (src c j)) 0 0 : sProp 𝕄))
      = bigSep Finset.univ fun c : Dev nD => bigSep Finset.univ fun i : Fin 7 => dutyTok ER (recvCell (tgt c i) c) 0 0 := by
    have h1 (c : Dev nD) (Φ : Dev nD → sProp 𝕄) : (bigSep Finset.univ fun d : Fin 7 => Φ (src c d)) = bigSep (Finset.univ.erase c) Φ := by
      rw [others_src c, bigSep_map]; rfl
    have h2 (c : Dev nD) (Φ : Dev nD → sProp 𝕄) : (bigSep Finset.univ fun d : Fin 7 => Φ (tgt c d)) = bigSep (Finset.univ.erase c) Φ := by
      rw [others_tgt c, bigSep_map]; rfl
    rw [bigSep_congr fun c _ => h1 c fun q => dutyTok ER (recvCell c q) 0 0, bigSep_congr fun c _ => h2 c fun q => dutyTok ER (recvCell q c) 0 0]
    exact bigSep_erase_comm fun c q => (dutyTok ER (recvCell c q) 0 0 : sProp 𝕄)
  unfold ownToks payToks
  simp only [bigSep_sep']
  rw [hB, hR]

theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ ownToks (F := F) c ∗ wSems (F := F) c) : sProp 𝕄)
      ⊢ bigSep Finset.univ (G' m) := by
  rw [bigSep_sep', bigSep_sep', bigSep_sep', deal_toks, ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hw⟩
  ihave HK := (BI.bigSep_exists_pi Finset.univ (fun (ck : Dev nD × CK) (κ : ℕ) => (cellInv ER (ringRd m) κ (kcell ck) : sProp 𝕄))) $$ HI
  icases HK with ⟨%K, #HI⟩
  have intro (c : Dev nD) : iprop(records m K ∗ linear (F := F) c) ⊢ G' m c := by
    unfold G'; iintro H; iexists K; iexact H
  iapply (bigSep_with (R := records m K) fun c _ => intro c)
  isplitr
  · unfold records; isplitl; · iexact HI
    iexact HR
  · unfold linear positions
    simp only [bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The launch credit -/

theorem kcell_eq {a b : Dev nD} {k l : CK} : kcell (a, k) = kcell (b, l) ↔ a = b ∧ k = l :=
  ⟨fun h => ⟨congrArg Prod.fst (kcell_injective h), congrArg Prod.snd (kcell_injective h)⟩, fun h => by rw [h.1, h.2]⟩

theorem owed_bar (d c : Dev nD) : O₀ d (barCell c) () = if d ≠ c then 1 else 0 := by
  rw [O₀_eq, Pi.add_apply, Finsupp.add_apply, sum_recv_apply, sum_bar_apply,
    Finset.sum_eq_zero fun q _ => if_neg fun h => by simpa using (kcell_eq (k := kBar) (l := kRecv d)).mp h.1, Nat.zero_add]
  rw [Finset.sum_congr rfl fun q _ => if_congr (show (barCell c = barCell q ∧ () = ()) ↔ c = q from
    ⟨fun h => ((kcell_eq (k := kBar) (l := kBar)).mp h.1).1, fun h => ⟨by rw [h], rfl⟩⟩) rfl rfl, Finset.sum_ite_eq]
  exact if_congr (by simp [eq_comm]) rfl rfl
theorem owed_recv (d c p : Dev nD) (hp : p ≠ c) : O₀ d (recvCell c p) () = if d = p then N else 0 := by
  rw [O₀_eq, Pi.add_apply, Finsupp.add_apply, sum_recv_apply, sum_bar_apply,
    Finset.sum_eq_zero (f := fun q => if recvCell c p = barCell q ∧ () = () then 1 else 0) fun q _ => if_neg fun h => by simpa using (kcell_eq (k := kRecv p) (l := kBar)).mp h.1, Nat.add_zero]
  by_cases h : d = p
  · subst h
    rw [Finset.sum_congr rfl fun q _ => if_congr (show (recvCell c d = recvCell q d ∧ () = ()) ↔ c = q from
      ⟨fun h => ((kcell_eq (k := kRecv d) (l := kRecv d)).mp h.1).1, fun h => ⟨by rw [h], rfl⟩⟩) rfl rfl, Finset.sum_ite_eq,
      if_pos (Finset.mem_erase.mpr ⟨hp.symm, Finset.mem_univ _⟩), if_pos rfl]
  · rw [if_neg h]
    refine Finset.sum_eq_zero fun q _ => if_neg fun h' => h ?_
    have := ((kcell_eq (k := kRecv p) (l := kRecv d)).mp h'.1).2
    simpa using this.symm

theorem launch_bar (c : Dev nD) : tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hp, Finset.sum_ite_eq' Finset.univ p fun _ => N,
    if_pos (Finset.mem_univ _)]

/-- The receive semaphores of the blocks a device waits for. -/
def recvE (c : Dev nD) : Fin 7 ↪ SemLoc sig :=
  ⟨fun j => .dma (recvS (src c j)), fun i j h => src_inj c i j (by simpa using csem_inj (a₁ := kRecv (src c i)) (a₂ := kRecv (src c j)) h)⟩
theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  refine BI.Entails.trans (bigSep_subset (t := Finset.univ.map (recvE c)) fun sm h => ?_) ?_
  · obtain ⟨j, -, rfl⟩ := Finset.mem_map.mp h
    exact Finset.mem_erase.mpr ⟨dma_ne_bar _, Finset.mem_univ _⟩
  · rw [bigSep_map]
    refine bigSep_mono fun j _ => ?_
    rw [← launch_recv c (src c j) (src_ne c j)]
    exact BI.Entails.refl _

/-! ## The theorem's side conditions -/

theorem rest_eq (c : Dev nD) : (Pipeline.unscopedRestP Pipeline.Prefetch.none cfg0.spec c (fun b => m ((c : Thread nD τ).loc b)) : sProp 𝕄) = wPts m c := by
  rw [Pipeline.unscopedRestP_none]; exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scopedRest0_eq c]
  unfold Φ₀ scratch
  iintro ⟨Hs, -, Hr⟩
  isplitl [Hs] <;> iassumption

theorem phi1_exit (c : Dev nD) :
    (dats m 0 c).Φ (Fin.last cfg0.N) ⊢ iprop((unscopedSems0 c ∗ wPts m c) ∗ Pipeline.ownSems0 osem c ∗ Pipeline.scopedRest cfg0.spec c) := by
  rw [show (dats m 0 c).Φ (Fin.last cfg0.N) = Φ₁ m c from rfl, show (Pipeline.scopedRest cfg0.spec c : sProp 𝕄) = _ from scopedRest0_eq c, ownSems_eq, barSem_eq]
  unfold Φ₁ scratch
  rw [sems_eq]
  iintro ⟨⟨Hb, Hk⟩, Hw, Hm, Hr⟩
  isplitl [Hb Hm]
  · isplitl [Hb] <;> iassumption
  isplitl [Hk Hw]
  · isplitl [Hk] <;> iassumption
  iexact Hr

theorem share_eq (c : Dev nD) (w : Fin cfg0.W) : (dats m 0 c).share w = fullShare := by unfold Dat.share; split <;> rfl

theorem kindOf_none {sm : SemLoc sig} (h : ∀ k : CK, csem k ≠ sm) : kindOf sm = none := by
  unfold kindOf; exact dif_neg fun ⟨k, hk⟩ => h k hk

theorem waits (c : Dev nD) : (levAts L lv : sProp 𝕄) ⊢ Pipeline.cellsWaits cfgs (dats m) () 0 c :=
  Pipeline.cellsWaits_intro cfgs (dats m) () 0 c fun w s t =>
    mayWait_stage c _ (kindOf_none (by fin_cases w <;> fin_cases s <;> decide)) _ (by
      rcases t with ⟨_ | _, ht⟩
      · exact Or.inl rfl
      · exact Or.inr rfl)

/-! ## The run -/

def post : PUnit × MemSt nD τ sig (Elt F) → Prop := fun r => ∀ c : Dev nD,
  (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

set_option maxRecDepth 8000 in
/-- On the eight devices, for any float values, from any memory with zero counters: every weakly fair execution ends,
    each device's arrays as the data say, the weights untouched and every counter at zero. -/
theorem run_main : θ_run defs (onTc (τ := τ) (main (F := F))) ⟨m, fun _ => 0, ρ⟩ (fun r => post m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ wPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      imod (Pipeline.unscopedSems0_read (X := unscopedSems0 c) (c := c) fupd_intro s') $$ [Hu HSI] with ⟨%h1, HSI⟩
      · isplitl [Hu] <;> iassumption
      ihave H := (pointsTo_read_all {main_arg1} (fun b => (c : Thread nD τ).loc b) (fun b => m ((c : Thread nD τ).loc b)) s') $$ [Hw HSI]
      · isplitl [Hw]
        · rw [bigSep_singleton]; iexact Hw
        · iexact HSI
      icases H with ⟨%h2, HSI⟩
      imodintro
      isplitr; · ipureintro; exact ⟨h1, h2 _ (Finset.mem_singleton_self _)⟩
      iexact HSI)
    (hQ := fun _ h hs => ⟨fun c => ⟨(h c).1, (h c).2.2.2⟩, sem_eq_zero hs fun c => (h c).2.2.1⟩)

end Cert.Ring

end
-- ==== Proof.Final.lean ====
/-
  What the arrays hold after the run: the arguments what they held, the result the last contents of its staging
  buffer. Each window is its whole array, so reading the window reads the array.
-/
module

public import proofs.«01_k».proof.Proof.Launch
public import Idealize.ShloMosaic.Lib.Pipeline.ValueKit

@[expose] public section

noncomputable section

namespace Cert.Ring

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## Windows read whole -/

theorem readAll_x (f : main_arg0.ty.Contents (Elt F)) : (win0_0.blk (0 : Fin 1)).view.read (Elt F) f = f :=
  Memref.read_access_unit_zero (Elt F) main_arg0
    (show (fun a => win0_0.index (0 : Fin 1) a * main_arg0.ty.shape.size a) = fun _ => 0 from funext fun a => by fin_cases a <;> decide)
    (fun a => by fin_cases a <;> decide) f
theorem readAll_sx (f : main_arg2.ty.Contents (Elt F)) : (win0_1.blk (0 : Fin 1)).view.read (Elt F) f = f :=
  Memref.read_access_unit_zero (Elt F) main_arg2
    (show (fun a => win0_1.index (0 : Fin 1) a * main_arg2.ty.shape.size a) = fun _ => 0 from funext fun a => by fin_cases a; decide)
    (fun a => by fin_cases a; decide) f
theorem readAll_sw (f : main_arg3.ty.Contents (Elt F)) : (win0_2.blk (0 : Fin 1)).view.read (Elt F) f = f :=
  Memref.read_access_unit_zero (Elt F) main_arg3
    (show (fun a => win0_2.index (0 : Fin 1) a * main_arg3.ty.shape.size a) = fun _ => 0 from funext fun a => by fin_cases a; decide)
    (fun a => by fin_cases a; decide) f
theorem readAll_o (f : main_v1.ty.Contents (Elt F)) : (win0_3.blk (0 : Fin 1)).view.read (Elt F) f = f :=
  Memref.read_access_unit_zero (Elt F) main_v1
    (show (fun a => win0_3.index (0 : Fin 1) a * main_v1.ty.shape.size a) = fun _ => 0 from funext fun a => by fin_cases a <;> decide)
    (fun a => by fin_cases a <;> decide) f

theorem xstg_eq (c : Dev nD) : xstg m c = m ((c : Thread nD τ).loc main_arg0) := readAll_x _
theorem sxstg_eq (c : Dev nD) : sxstg m c = m ((c : Thread nD τ).loc main_arg2) := readAll_sx _
theorem swstg_eq (c : Dev nD) : swstg m c = m ((c : Thread nD τ).loc main_arg3) := readAll_sw _

/-! ## After the run -/

/-- The one write-back covers the result array. -/
theorem final_o (c : Dev nD) : (dats m 0 c).arrAt (3 : Fin 4) cfg0.N = outAt m c := by
  refine (readAll_o ((dats m 0 c).arrAt (3 : Fin 4) cfg0.N)).symm.trans ?_
  rw [show cfg0.N = ((0 : Fin 1) : Fin cfg0.N).val + 1 from rfl, (dats m 0 c).arrAt_succ (3 : Fin 4) (0 : Fin 1)]
  rw [if_pos (flush0_3 (0 : Fin 1))]
  exact View.read_write_univ _ _

/-- The run on the eight devices: the result of each, its arguments unchanged, every counter back at zero. -/
theorem run : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    ⟨((h.1 c).1 (3 : Fin 4)).trans (final_o m c),
      ((h.1 c).1 (0 : Fin 4)).trans ((dats m 0 c).arrAt_in (0 : Fin 4) rfl _),
      (h.1 c).2,
      ((h.1 c).1 (1 : Fin 4)).trans ((dats m 0 c).arrAt_in (1 : Fin 4) rfl _),
      ((h.1 c).1 (2 : Fin 4)).trans ((dats m 0 c).arrAt_in (2 : Fin 4) rfl _)⟩, h.2⟩) (run_main m ρ)

end Cert.Ring

end
-- ==== Proof.Value.lean ====
/-
  The result of a device over the extended reals: its eight products, in the order in which the blocks arrive, add up
  to its rows of the whole product, and so its result is its block of the reference's.
-/
module

public import proofs.«01_k».proof.Proof.Final
public import proofs.«01_k».proof.Proof.Gen.ReferenceIdeal
public import Idealize.ShloMosaic.Lib.Pointwise
public import Idealize.ShloMosaic.Lib.Layout

@[expose] public section

set_option maxRecDepth 16384

noncomputable section

namespace Cert.Ring

open Cert.KernelIdeal Cert.KernelIdeal.Gen
open Idealize.ShloMosaic Idealize.ShloMosaic.TcCoe
open Idealize.SL.Sem

/-- The reference's result, of its four arguments. -/
def refOut (x : FVec Ideal Cert.ReferenceIdeal.S4096x4096 .f32) (w : FVec Ideal Cert.ReferenceIdeal.S4096x2048 .f32) (sx sw : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none x w)
      (broadcastInDim Cert.ReferenceIdeal.S4096x2048 ![0, 1] Cert.ReferenceIdeal.Facts₀.bcast_S1x1_S4096x2048_0_1
        (broadcastInDim Cert.ReferenceIdeal.S1x1 ![1] Cert.ReferenceIdeal.Facts₀.bcast_S1_S1x1_1 (mulf sx sw))))
    (broadcastInDim Cert.ReferenceIdeal.S4096x2048 ![] Cert.ReferenceIdeal.Facts₀.bcast_S_S4096x2048 (constant Cert.ReferenceIdeal.S_ .f32 0x00000000#32))

theorem refOut_apply (x : FVec Ideal Cert.ReferenceIdeal.S4096x4096 .f32) (w : FVec Ideal Cert.ReferenceIdeal.S4096x2048 .f32) (sx sw : FVec Ideal Cert.ReferenceIdeal.S1 .f32) (r : Fin 4096) (n : Fin 2048) :
    refOut x w sx sw (ix2 r n) = max ((∑ l : Fin 4096, x (ix2 r l) * w (ix2 l n)) * (sx (ix1 0) * sw (ix1 0))) 0 := by
  unfold refOut
  pointwise

/-- One product at an index: the changes of format do nothing here. -/
theorem mmul_apply (a : FVec Ideal S512x512 .bf16) (w : FVec Ideal S512x2048 .f32) (r : Fin 512) (n : Fin 2048) :
    mmul (F := Ideal) a w (ix2 r n) = ∑ k : Fin 512, a (ix2 r k) * w (ix2 k n) := by
  unfold mmul
  pointwise

section
variable (x : Dev nD → S4096x512.Idx → EReal) (w : S4096x2048.Idx → EReal)

/-- What device `p`'s columns of the left factor give to the entry at row `r` of device `c`'s block. -/
def part (c p : Dev nD) (r : Fin 512) (n : Fin 2048) : EReal :=
  ∑ k : Fin 512, xrows (F := Ideal) (x p) c (ix2 r k) * wrows (F := Ideal) w p (ix2 k n)

variable (m : (ℓ : Loc nD τ sig) → Buf (Elt Ideal) ℓ)

theorem acc_zero_apply (c : Dev nD) (r : Fin 512) (n : Fin 2048) :
    acc m c 0 (ix2 r n) = part (xstg m) (wmem m c) c (ord c 0) r n := by
  rw [ord_zero]
  exact mmul_apply _ _ r n
theorem acc_succ_apply (c : Dev nD) (k : ℕ) (r : Fin 512) (n : Fin 2048) :
    acc m c (k + 1) (ix2 r n) = acc m c k (ix2 r n) + part (xstg m) (wmem m c) c (src c (Fin.ofNat 7 k)) r n := by
  exact congrArg (acc m c k (ix2 r n) + ·) (mmul_apply _ _ r n)

/-- The eight products of a device add up in whatever order the blocks arrive. -/
theorem acc_all (c : Dev nD) (r : Fin 512) (n : Fin 2048) :
    acc m c 7 (ix2 r n) = ∑ p : Dev nD, part (xstg m) (wmem m c) c p r n := by
  rw [← Equiv.sum_comp (ordE c), Fin.sum_univ_eight]
  simp only [acc_succ_apply, acc_zero_apply]
  rfl
end

/-- The columns of the devices, one after the other, are the columns of the whole. -/
theorem sum_parts (X : Cert.ReferenceIdeal.S4096x4096.Idx → EReal) (w : S4096x2048.Idx → EReal) (c : Dev nD) (r : Fin 512) (n : Fin 2048)
    (row : Fin 4096) (hrow : row.val = c.val * 512 + r.val) :
    ∑ p : Dev nD, part (fun p => Layout.block ⟨2, ![4096, 512]⟩ ⟨2, ![4096, 4096]⟩ 1 8 p X) w c p r n = ∑ l : Fin 4096, X (ix2 row l) * w (ix2 l n) := by
  refine Fin.sum_mul_add_congr fun p k hl => ?_
  unfold xrows wrows
  refine congrArg₂ (· * ·) (congrArg X ?_) (congrArg w ?_)
  · funext b; fin_cases b <;> refine Fin.ext ?_
    · show 512 * c.val + r.val = row.val; omega
    · rfl
  · funext b; fin_cases b <;> refine Fin.ext ?_
    · show 512 * p.val + k.val = p.val * 512 + k.val; omega
    · rfl

variable (m : (ℓ : Loc nD τ sig) → Buf (Elt Ideal) ℓ)

/-- Device `c`'s result is its rows of the reference's. -/
theorem outAt_block (X : FVec Ideal Cert.ReferenceIdeal.S4096x4096 .f32) (w : FVec Ideal Cert.ReferenceIdeal.S4096x2048 .f32) (sx sw : FVec Ideal Cert.ReferenceIdeal.S1 .f32)
    (hx : ∀ c : Dev nD, m ((c : Thread nD τ).loc main_arg0) = Layout.block ⟨2, ![4096, 512]⟩ ⟨2, ![4096, 4096]⟩ 1 8 c X)
    (hw : ∀ c : Dev nD, m ((c : Thread nD τ).loc main_arg1) = w)
    (hsx : ∀ c : Dev nD, m ((c : Thread nD τ).loc main_arg2) = sx)
    (hsw : ∀ c : Dev nD, m ((c : Thread nD τ).loc main_arg3) = sw) (c : Dev nD) :
    outAt m c = Layout.block ⟨2, ![512, 2048]⟩ ⟨2, ![4096, 2048]⟩ 0 8 c (refOut X w sx sw) := by
  have hX : xstg m = fun p => Layout.block ⟨2, ![4096, 512]⟩ ⟨2, ![4096, 4096]⟩ 1 8 p X := funext fun p => (xstg_eq m p).trans (hx p)
  funext i
  obtain ⟨r, n, rfl⟩ : ∃ (r : Fin 512) (n : Fin 2048), i = ix2 r n := ⟨i 0, i 1, by funext b; fin_cases b <;> rfl⟩
  have hr : c.val * 512 + r.val < 4096 := by have h1 := r.isLt; have h2 : c.val < 8 := c.isLt; omega
  have hi : (show Layout.Tiles ⟨2, ![512, 2048]⟩ ⟨2, ![4096, 2048]⟩ 0 8 by decide).idx c (ix2 r n) = ix2 ⟨c.val * 512 + r.val, hr⟩ n := by
    funext b; fin_cases b <;> rfl
  rw [Layout.block_apply, hi, refOut_apply, ← sum_parts X w c r n ⟨c.val * 512 + r.val, hr⟩ rfl, ← hX, ← hw c]
  have ha := acc_all m c r n
  unfold outAt finish
  rw [sxstg_eq, swstg_eq, hsx c, hsw c]
  pointwise
  rw [ha]
  rfl

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Value

@[expose] public section

noncomputable section

namespace Cert.Proof

open Idealize.ShloMosaic Idealize.SL.Sem

/-- The kernel at the bit patterns: its text is the idealized program's, so its run is that program's run. -/
theorem frame_kernel : Cert.quiescent_Kernel := fun m ρ _ =>
  Cert.Ring.run_same _ ((θ_run Cert.KernelIdeal.defs _ _).mono (fun _ h => ⟨fun c => (h.1 c).2, h.2⟩) (Cert.Ring.run (F := Bits) m ρ))

/-- The kernel over the extended reals. -/
theorem frame_ideal : Cert.quiescent_KernelIdeal := fun m ρ _ =>
  (θ_run Cert.KernelIdeal.defs _ _).mono (fun _ h => ⟨fun c => (h.1 c).2, h.2⟩) (Cert.Ring.run (F := Ideal) m ρ)

/-- The reference, which has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device's result is its block of rows of the reference's result. -/
theorem value : Cert.algebraic_KernelIdeal_ReferenceIdeal := by
  intro m ρ m' ρ' _ hm
  refine ⟨Cert.Ring.refOut
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)), ?_, ?_⟩
  · exact (θ_run Cert.KernelIdeal.defs _ _).mono
      (fun _ h c => ⟨(h.1 c).1.trans (Cert.Ring.outAt_block m _ _ _ _ (fun c => (hm c).1) (fun c => (hm c).2.1)
        (fun c => (hm c).2.2.1) (fun c => (hm c).2.2.2) c), (h.1 c).2⟩)
      (Cert.Ring.run (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
